-- ==== Defs.lean ====
def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1)
      ∧ r.2.mem ((c.tc : Thread Cert.RestRefIdeal.nD Cert.RestRefIdeal.τ).loc Cert.RestRefIdeal.main_arg2) = m ((c.tc : Thread Cert.RestRefIdeal.nD Cert.RestRefIdeal.τ).loc Cert.RestRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_First_FirstIdeal : Prop :=
  True

def algebraic_FirstIdeal_FirstRefIdeal_on_columns_of_first [hFirstIdeal : Cert.FirstIdeal.Facts] [hFirstRefIdeal : Cert.FirstRefIdeal.Facts] [hOn_columns_of_first : Cert.On_columns_of_first.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)) →
    ∃ (v0 : (c : Dev Cert.FirstIdeal.nD) → Buf (Elt Ideal) ((c.tc : Thread Cert.FirstIdeal.nD Cert.FirstIdeal.τ).loc Cert.FirstIdeal.main_v5_0)) (v1 : (c : Dev Cert.FirstIdeal.nD) → Buf (Elt Ideal) ((c.tc : Thread Cert.FirstIdeal.nD Cert.FirstIdeal.τ).loc Cert.FirstIdeal.main_v5_1)) (v2 : (c : Dev Cert.FirstIdeal.nD) → Buf (Elt Ideal) ((c.tc : Thread Cert.FirstIdeal.nD Cert.FirstIdeal.τ).loc Cert.FirstIdeal.main_v5_2)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          (∀ i : (⟨2, ![16384, 11264]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).1 i = 1#1 → r.2.mem ((c.tc : Thread Cert.FirstIdeal.nD Cert.FirstIdeal.τ).loc Cert.FirstIdeal.main_v5_0) i = v0 c i)
          ∧ (∀ i : (⟨2, ![16384, 128]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).2.1 i = 1#1 → r.2.mem ((c.tc : Thread Cert.FirstIdeal.nD Cert.FirstIdeal.τ).loc Cert.FirstIdeal.main_v5_1) i = v1 c i)
          ∧ (∀ i : (⟨2, ![16384, 2048]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).2.2 i = 1#1 → r.2.mem ((c.tc : Thread Cert.FirstIdeal.nD Cert.FirstIdeal.τ).loc Cert.FirstIdeal.main_v5_2) i = v2 c i)
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          (∀ i : (⟨2, ![16384, 11264]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).1 i = 1#1 → r.2.mem ((c.tc : Thread Cert.FirstRefIdeal.nD Cert.FirstRefIdeal.τ).loc Cert.FirstRefIdeal.main_v30) i = v0 c i)
          ∧ (∀ i : (⟨2, ![16384, 128]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).2.1 i = 1#1 → r.2.mem ((c.tc : Thread Cert.FirstRefIdeal.nD Cert.FirstRefIdeal.τ).loc Cert.FirstRefIdeal.main_v31) i = v1 c i)
          ∧ (∀ i : (⟨2, ![16384, 2048]⟩ : Shape).Idx, (Cert.On_columns_of_first.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2))).2.2 i = 1#1 → r.2.mem ((c.tc : Thread Cert.FirstRefIdeal.nD Cert.FirstRefIdeal.τ).loc Cert.FirstRefIdeal.main_v33) i = v2 c i)
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)
      ∧ m' ((c.tc : Thread Cert.RestRefIdeal.nD Cert.RestRefIdeal.τ).loc Cert.RestRefIdeal.main_arg2) = m ((c.tc : Thread Cert.RestIdeal.nD Cert.RestIdeal.τ).loc Cert.RestIdeal.main_arg2)) →
    ∃ (v0 : (c : Dev Cert.RestIdeal.nD) → Buf (Elt Ideal) ((c.tc : Thread Cert.RestIdeal.nD Cert.RestIdeal.τ).loc Cert.RestIdeal.main_v2)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v2) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v19) = v0 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1)
          ∧ r.2.mem ((c.tc : Thread Cert.RestRefIdeal.nD Cert.RestRefIdeal.τ).loc Cert.RestRefIdeal.main_arg2) = m' ((c.tc : Thread Cert.RestRefIdeal.nD Cert.RestRefIdeal.τ).loc Cert.RestRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_v44) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v38_0)) (v1 : (c : Dev Cert.GateIdeal.nD) → Buf (Elt Ideal) ((c.tc : Thread Cert.GateIdeal.nD Cert.GateIdeal.τ).loc Cert.GateIdeal.main_v38_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v38_0) = v0 c
          ∧ r.2.mem ((c.tc : Thread Cert.GateIdeal.nD Cert.GateIdeal.τ).loc Cert.GateIdeal.main_v38_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v67) = v0 c
          ∧ r.2.mem ((c.tc : Thread Cert.GateRefIdeal.nD Cert.GateRefIdeal.τ).loc Cert.GateRefIdeal.main_v68) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hFirst : Cert.First.Facts) (hFirstIdeal : Cert.FirstIdeal.Facts) (hFirstRefIdeal : Cert.FirstRefIdeal.Facts) (hRest : Cert.Rest.Facts) (hRestIdeal : Cert.RestIdeal.Facts) (hRestRefIdeal : Cert.RestRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hGate : Cert.Gate.Facts) (hGateIdeal : Cert.GateIdeal.Facts) (hGateRefIdeal : Cert.GateRefIdeal.Facts) (hOn_columns_of_first : Cert.On_columns_of_first.Facts),
    quiescent_First (hFirst := hFirst)
    ∧ quiescent_FirstIdeal (hFirstIdeal := hFirstIdeal)
    ∧ quiescent_FirstRefIdeal (hFirstRefIdeal := hFirstRefIdeal)
    ∧ quiescent_Rest (hRest := hRest)
    ∧ quiescent_RestIdeal (hRestIdeal := hRestIdeal)
    ∧ quiescent_RestRefIdeal (hRestRefIdeal := hRestRefIdeal)
    ∧ quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Gate (hGate := hGate)
    ∧ quiescent_GateIdeal (hGateIdeal := hGateIdeal)
    ∧ quiescent_GateRefIdeal (hGateRefIdeal := hGateRefIdeal)
    ∧ preserves_First_FirstIdeal
    ∧ algebraic_FirstIdeal_FirstRefIdeal_on_columns_of_first (hFirstIdeal := hFirstIdeal) (hFirstRefIdeal := hFirstRefIdeal) (hOn_columns_of_first := hOn_columns_of_first)
    ∧ preserves_Rest_RestIdeal
    ∧ algebraic_RestIdeal_RestRefIdeal (hRestIdeal := hRestIdeal) (hRestRefIdeal := hRestRefIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_Gate_GateIdeal
    ∧ algebraic_GateIdeal_GateRefIdeal (hGateIdeal := hGateIdeal) (hGateRefIdeal := hGateRefIdeal)
-- ==== On_columns_of_first.lean ====
abbrev S8x2048x2048 : Shape := ⟨3, ![8, 2048, 2048]⟩
abbrev S1x2048 : Shape := ⟨2, ![1, 2048]⟩
abbrev S1x2048x11312 : Shape := ⟨3, ![1, 2048, 11312]⟩
abbrev S16384x11264 : Shape := ⟨2, ![16384, 11264]⟩
abbrev S_ : Shape := ⟨0, ![]⟩
abbrev S16384x128 : Shape := ⟨2, ![16384, 128]⟩
abbrev S16384x2048 : Shape := ⟨2, ![16384, 2048]⟩

class Facts : Prop where
  bcast_S_S16384x11264 : S_.BroadcastsInDim S16384x11264 (![] : Fin 0 → Fin S16384x11264.rank)
  bcast_S_S16384x128 : S_.BroadcastsInDim S16384x128 (![] : Fin 0 → Fin S16384x128.rank)
  bcast_S_S16384x2048 : S_.BroadcastsInDim S16384x2048 (![] : Fin 0 → Fin S16384x2048.rank)

variable [Facts]

def fn {F : FTy → Type} [FloatOps F] (main_arg0 : FVec F S8x2048x2048 .f32) (main_arg1 : FVec F S1x2048 .f32) (main_arg2 : FVec F S1x2048x11312 .f32) : IVec S16384x11264 1 × IVec S16384x128 1 × IVec S16384x2048 1 :=
  let main_v0 : IVec S16384x11264 32 := iotaInDim S16384x11264 32 1
  let main_c : IVec S_ 32 := constantI S_ 32 1024#32
  let main_v1 : IVec S16384x11264 32 := broadcastInDim S16384x11264 ![] bcast_S_S16384x11264 main_c
  let main_v2 : IVec S16384x11264 1 := cmpi .slt main_v0 main_v1
  let main_c_0 : IVec S_ 1 := constantI S_ 1 1#1
  let main_v3 : IVec S16384x128 1 := broadcastInDim S16384x128 ![] bcast_S_S16384x128 main_c_0
  let main_c_1 : IVec S_ 1 := constantI S_ 1 1#1
  let main_v4 : IVec S16384x2048 1 := broadcastInDim S16384x2048 ![] bcast_S_S16384x2048 main_c_1
  (main_v2, main_v3, main_v4)
-- ==== First.lean ====
abbrev S8x2048x2048 : Shape := ⟨3, ![8, 2048, 2048]⟩
abbrev S1x2048 : Shape := ⟨2, ![1, 2048]⟩
abbrev S1x2048x11312 : Shape := ⟨3, ![1, 2048, 11312]⟩
abbrev S16384x2048 : Shape := ⟨2, ![16384, 2048]⟩
abbrev S2048 : Shape := ⟨1, ![2048]⟩
abbrev S2048x11312 : Shape := ⟨2, ![2048, 11312]⟩
abbrev S11312x2048 : Shape := ⟨2, ![11312, 2048]⟩
abbrev S16384x11264 : Shape := ⟨2, ![16384, 11264]⟩
abbrev S16384x128 : Shape := ⟨2, ![16384, 128]⟩
abbrev S1024x2048 : Shape := ⟨2, ![1024, 2048]⟩
abbrev S16x2048 : Shape := ⟨2, ![16, 2048]⟩
abbrev S32x2048 : Shape := ⟨2, ![32, 2048]⟩
abbrev S1024x1024 : Shape := ⟨2, ![1024, 1024]⟩
abbrev S1024x128 : Shape := ⟨2, ![1024, 128]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x11312, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x11312, .f32⟩
  | .hbm, ⟨7, _⟩ => ⟨S11312x2048, .f32⟩
  | .hbm, ⟨8, _⟩ => ⟨S16384x11264, .f32⟩
  | .hbm, ⟨9, _⟩ => ⟨S16384x128, .f32⟩
  | .hbm, ⟨10, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S16x2048, .f32⟩
  | .local _ .vmem, ⟨5, _⟩ => ⟨S32x2048, .f32⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S128x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_4 (i : grid0.Coords) : Fin 2 → Nat :=
  let arg0 : BitVec 32 := BitVec.ofNat 32 (i 0).val
  let c7184_i32 : BitVec 32 := 7184#32
  let c0_i32 : BitVec 32 := 0#32
  let c0_i32_0 : BitVec 32 := 0#32
  ![c7184_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FirstRefIdeal.lean ====
abbrev S8x2048x2048 : Shape := ⟨3, ![8, 2048, 2048]⟩
abbrev S1x2048 : Shape := ⟨2, ![1, 2048]⟩
abbrev S1x2048x11312 : Shape := ⟨3, ![1, 2048, 11312]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x11312 : Shape := ⟨2, ![2048, 11312]⟩
abbrev S8x2048x11312 : Shape := ⟨3, ![8, 2048, 11312]⟩
abbrev S8x2048x512 : Shape := ⟨3, ![8, 2048, 512]⟩
abbrev S8x2048x1024 : Shape := ⟨3, ![8, 2048, 1024]⟩
abbrev S8x2048x8 : Shape := ⟨3, ![8, 2048, 8]⟩
abbrev S8x2048x3072 : Shape := ⟨3, ![8, 2048, 3072]⟩
abbrev S8x2048x16 : Shape := ⟨3, ![8, 2048, 16]⟩
abbrev S8x2048x4096 : Shape := ⟨3, ![8, 2048, 4096]⟩
abbrev S8x2048x11264 : Shape := ⟨3, ![8, 2048, 11264]⟩
abbrev S8x2048x48 : Shape := ⟨3, ![8, 2048, 48]⟩
abbrev S8x2048x128 : Shape := ⟨3, ![8, 2048, 128]⟩
abbrev S16384x11264 : Shape := ⟨2, ![16384, 11264]⟩
abbrev S16384x128 : Shape := ⟨2, ![16384, 128]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x11312, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x11312, .f32⟩
  | .hbm, ⟨21, _⟩ => ⟨S8x2048x11312, .f32⟩
  | .hbm, ⟨22, _⟩ => ⟨S8x2048x512, .f32⟩
  | .hbm, ⟨23, _⟩ => ⟨S8x2048x512, .f32⟩
  | .hbm, ⟨24, _⟩ => ⟨S8x2048x1024, .f32⟩
  | .hbm, ⟨25, _⟩ => ⟨S8x2048x1024, .f32⟩
  | .hbm, ⟨26, _⟩ => ⟨S8x2048x8, .f32⟩
  | .hbm, ⟨27, _⟩ => ⟨S8x2048x8, .f32⟩
  | .hbm, ⟨28, _⟩ => ⟨S8x2048x3072, .f32⟩
  | .hbm, ⟨29, _⟩ => ⟨S8x2048x1024, .f32⟩
  | .hbm, ⟨30, _⟩ => ⟨S8x2048x16, .f32⟩
  | .hbm, ⟨31, _⟩ => ⟨S8x2048x16, .f32⟩
  | .hbm, ⟨32, _⟩ => ⟨S8x2048x4096, .f32⟩
  | .hbm, ⟨33, _⟩ => ⟨S8x2048x11264, .f32⟩
  | .hbm, ⟨34, _⟩ => ⟨S8x2048x48, .f32⟩
  | .hbm, ⟨35, _⟩ => ⟨S_, .i32⟩
  | .hbm, ⟨36, _⟩ => ⟨S_, .f32⟩
  | .hbm, ⟨37, _⟩ => ⟨S8x2048x128, .f32⟩
  | .hbm, ⟨38, _⟩ => ⟨S16384x11264, .f32⟩
  | .hbm, ⟨39, _⟩ => ⟨S16384x128, .f32⟩
  | .hbm, ⟨40, _⟩ => ⟨S16384x2048, .f32⟩
  | .hbm, ⟨41, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_call0_v0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Rest.lean ====
abbrev S16384x2048 : Shape := ⟨2, ![16384, 2048]⟩
abbrev S1x2048x11312 : Shape := ⟨3, ![1, 2048, 11312]⟩
abbrev S16384x11264 : Shape := ⟨2, ![16384, 11264]⟩
abbrev S2048x11312 : Shape := ⟨2, ![2048, 11312]⟩
abbrev S11312x2048 : Shape := ⟨2, ![11312, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x11312, .f32⟩
  | .hbm, ⟨2, _⟩ => ⟨S16384x11264, .f32⟩
  | .hbm, ⟨3, _⟩ => ⟨S2048x11312, .f32⟩
  | .hbm, ⟨4, _⟩ => ⟨S11312x2048, .f32⟩
  | .hbm, ⟨5, _⟩ => ⟨S16384x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let arg0 : BitVec 32 := BitVec.ofNat 32 (i 0).val
  let c1_i32 : BitVec 32 := 1#32
  let v0 : BitVec 32 := Scalar.addi arg0 c1_i32
  let c7_i32 : BitVec 32 := 7#32
  let v8 : BitVec 1 := Scalar.cmpi .sge v0 c7_i32
  let c7216_i32 : BitVec 32 := 7216#32
  let c7_i32_2 : BitVec 32 := 7#32
  let v9 : BitVec 32 := Scalar.subi v0 c7_i32_2
  let c1024_i32_3 : BitVec 32 := 1024#32
  let v10 : BitVec 32 := Scalar.muli v9 c1024_i32_3
  let v11 : BitVec 32 := Scalar.addi c7216_i32 v10
  let c3_i32 : BitVec 32 := 3#32
  let v3 : BitVec 1 := Scalar.cmpi .sge v0 c3_i32
  let c3088_i32 : BitVec 32 := 3088#32
  let c3_i32_0 : BitVec 32 := 3#32
  let v4 : BitVec 32 := Scalar.subi v0 c3_i32_0
  let c1024_i32_1 : BitVec 32 := 1024#32
  let v5 : BitVec 32 := Scalar.muli v4 c1024_i32_1
  let v6 : BitVec 32 := Scalar.addi c3088_i32 v5
  let c0_i32 : BitVec 32 := 0#32
  let c1024_i32 : BitVec 32 := 1024#32
  let v1 : BitVec 32 := Scalar.muli v0 c1024_i32
  let v2 : BitVec 32 := Scalar.addi c0_i32 v1
  let v7 : BitVec 32 := Scalar.select v3 v6 v2
  let v12 : BitVec 32 := Scalar.select v8 v11 v7
  v12
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1024_i32 : BitVec 32 := 1024#32
  let v1 : BitVec 32 := Scalar.muli v0 c1024_i32
  let c0_i32 : BitVec 32 := 0#32
  let v2 : BitVec 32 := Scalar.addi c0_i32 v1
  let c3_i32 : BitVec 32 := 3#32
  let v3 : BitVec 1 := Scalar.cmpi .sge v0 c3_i32
  let c3_i32_0 : BitVec 32 := 3#32
  let v4 : BitVec 32 := Scalar.subi v0 c3_i32_0
  let c1024_i32_1 : BitVec 32 := 1024#32
  let v5 : BitVec 32 := Scalar.muli v4 c1024_i32_1
  let c3088_i32 : BitVec 32 := 3088#32
  let v6 : BitVec 32 := Scalar.addi c3088_i32 v5
  let v7 : BitVec 32 := Scalar.select v3 v6 v2
  let c7_i32 : BitVec 32 := 7#32
  let v8 : BitVec 1 := Scalar.cmpi .sge v0 c7_i32
  let c7_i32_2 : BitVec 32 := 7#32
  let v9 : BitVec 32 := Scalar.subi v0 c7_i32_2
  let c1024_i32_3 : BitVec 32 := 1024#32
  let v10 : BitVec 32 := Scalar.muli v9 c1024_i32_3
  let c7216_i32 : BitVec 32 := 7216#32
  let v11 : BitVec 32 := Scalar.addi c7216_i32 v10
  let v12 : BitVec 32 := Scalar.select v8 v11 v7
  let v13 : BitVec 32 := v12
  let c0_i32_4 : BitVec 32 := 0#32
  let c0_i32_5 : BitVec 32 := 0#32
  ![v13.toNat, c0_i32_4.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RestRefIdeal.lean ====
abbrev S16384x2048 : Shape := ⟨2, ![16384, 2048]⟩
abbrev S1x2048x11312 : Shape := ⟨3, ![1, 2048, 11312]⟩
abbrev S16384x11264 : Shape := ⟨2, ![16384, 11264]⟩
abbrev S2048x11312 : Shape := ⟨2, ![2048, 11312]⟩
abbrev S16384x11312 : Shape := ⟨2, ![16384, 11312]⟩
abbrev S16384x512 : Shape := ⟨2, ![16384, 512]⟩
abbrev S16384x1024 : Shape := ⟨2, ![16384, 1024]⟩
abbrev S16384x8 : Shape := ⟨2, ![16384, 8]⟩
abbrev S16384x3072 : Shape := ⟨2, ![16384, 3072]⟩
abbrev S16384x16 : Shape := ⟨2, ![16384, 16]⟩
abbrev S16384x4096 : Shape := ⟨2, ![16384, 4096]⟩
abbrev S16384x48 : Shape := ⟨2, ![16384, 48]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11312, .f32⟩
  | .hbm, ⟨2, _⟩ => ⟨S16384x11264, .f32⟩
  | .hbm, ⟨3, _⟩ => ⟨S16384x2048, .f32⟩
  | .hbm, ⟨4, _⟩ => ⟨S2048x11312, .f32⟩
  | .hbm, ⟨5, _⟩ => ⟨S16384x11312, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S16384x8, .f32⟩
  | .hbm, ⟨11, _⟩ => ⟨S16384x8, .f32⟩
  | .hbm, ⟨12, _⟩ => ⟨S16384x3072, .f32⟩
  | .hbm, ⟨13, _⟩ => ⟨S16384x1024, .f32⟩
  | .hbm, ⟨14, _⟩ => ⟨S16384x16, .f32⟩
  | .hbm, ⟨15, _⟩ => ⟨S16384x16, .f32⟩
  | .hbm, ⟨16, _⟩ => ⟨S16384x4096, .f32⟩
  | .hbm, ⟨17, _⟩ => ⟨S16384x11264, .f32⟩
  | .hbm, ⟨18, _⟩ => ⟨S16384x48, .f32⟩
  | .hbm, ⟨19, _⟩ => ⟨S16384x11264, .i32⟩
  | .hbm, ⟨20, _⟩ => ⟨S_, .i32⟩
  | .hbm, ⟨21, _⟩ => ⟨S16384x11264, .i32⟩
  | .hbm, ⟨22, _⟩ => ⟨S16384x11264, .i1⟩
  | .hbm, ⟨23, _⟩ => ⟨S16384x11264, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Mix.lean ====
abbrev S8x2048x2048 : Shape := ⟨3, ![8, 2048, 2048]⟩
abbrev S8x2048x1024 : Shape := ⟨3, ![8, 2048, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S16384x11264, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S16384x2048, .f32⟩
  | .hbm, ⟨9, _⟩ => ⟨S16384x1024, .bf16⟩
  | .hbm, ⟨10, _⟩ => ⟨S16384x1024, .bf16⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S8x2048x2048 : Shape := ⟨3, ![8, 2048, 2048]⟩
abbrev S8x2048x1024 : Shape := ⟨3, ![8, 2048, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x4096 : Shape := ⟨2, ![16384, 4096]⟩
abbrev S8x2048x4096 : Shape := ⟨3, ![8, 2048, 4096]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S16384x11264, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S16384x4096, .f32⟩
  | .hbm, ⟨9, _⟩ => ⟨S8x2048x4096, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x1024, .f32⟩
  | .hbm, ⟨21, _⟩ => ⟨S1024x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x1024, .f32⟩
  | .hbm, ⟨33, _⟩ => ⟨S1024x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S2048x2048, .f32⟩
  | .hbm, ⟨38, _⟩ => ⟨S8x2048x2048, .f32⟩
  | .hbm, ⟨39, _⟩ => ⟨S8x2048x2048, .f32⟩
  | .hbm, ⟨40, _⟩ => ⟨S2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S1x1x2048, .f32⟩
  | .hbm, ⟨55, _⟩ => ⟨S8x2048x2048, .f32⟩
  | .hbm, ⟨56, _⟩ => ⟨S8x2048x2048, .f32⟩
  | .hbm, ⟨57, _⟩ => ⟨S16384x2048, .f32⟩
  | .hbm, ⟨58, _⟩ => ⟨S16384x2048, .f32⟩
  | .hbm, ⟨59, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Ffn.lean ====
abbrev S16384x2048 : Shape := ⟨2, ![16384, 2048]⟩
abbrev S1x2048x8192 : Shape := ⟨3, ![1, 2048, 8192]⟩
abbrev S1x8192x2048 : Shape := ⟨3, ![1, 8192, 2048]⟩
abbrev S2048 : Shape := ⟨1, ![2048]⟩
abbrev S1x2048 : Shape := ⟨2, ![1, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S1x2048, .f32⟩
  | .hbm, ⟨6, _⟩ => ⟨S2048x8192, .f32⟩
  | .hbm, ⟨7, _⟩ => ⟨S2048x8192, .bf16⟩
  | .hbm, ⟨8, _⟩ => ⟨S8192x2048, .f32⟩
  | .hbm, ⟨9, _⟩ => ⟨S8192x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32_4 : BitVec 32 := 7#32
  let v10 : BitVec 1 := Scalar.cmpi .eq arg1 c7_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S16384x8192 : Shape := ⟨2, ![16384, 8192]⟩
abbrev S_ : Shape := ⟨0, ![]⟩
abbrev S8192x2048 : Shape := ⟨2, ![8192, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S16384x2048, .f32⟩
  | .hbm, ⟨6, _⟩ => ⟨S2048x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S8192x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Gate.lean ====
abbrev S16384x128 : Shape := ⟨2, ![16384, 128]⟩
abbrev S1x2x4 : Shape := ⟨3, ![1, 2, 4]⟩
abbrev S1x2x8 : Shape := ⟨3, ![1, 2, 8]⟩
abbrev S2x4 : Shape := ⟨2, ![2, 4]⟩
abbrev S8 : Shape := ⟨1, ![8]⟩
abbrev S2x8 : Shape := ⟨2, ![2, 8]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S8x2048x128 : Shape := ⟨3, ![8, 2048, 128]⟩
abbrev S256x256 : Shape := ⟨2, ![256, 256]⟩
abbrev S1280x256 : Shape := ⟨2, ![1280, 256]⟩
abbrev S8x128x2048 : Shape := ⟨3, ![8, 128, 2048]⟩
abbrev S1x1024x128 : Shape := ⟨3, ![1, 1024, 128]⟩
abbrev S1x128x1024 : Shape := ⟨3, ![1, 128, 1024]⟩
abbrev S256x128 : Shape := ⟨2, ![256, 128]⟩
abbrev S1x256x128 : Shape := ⟨3, ![1, 256, 128]⟩
abbrev S256x384 : Shape := ⟨2, ![256, 384]⟩
abbrev S1280x384 : Shape := ⟨2, ![1280, 384]⟩
abbrev S1280x128 : Shape := ⟨2, ![1280, 128]⟩
abbrev S128x256 : Shape := ⟨2, ![128, 256]⟩
abbrev S1x128x256 : Shape := ⟨3, ![1, 128, 256]⟩

abbrev nBuf : Space → Nat
  | .hbm => 53
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x2x4, .f32⟩
  | .hbm, ⟨2, _⟩ => ⟨S1x2x4, .f32⟩
  | .hbm, ⟨3, _⟩ => ⟨S1x2x8, .f32⟩
  | .hbm, ⟨4, _⟩ => ⟨S1x2x8, .f32⟩
  | .hbm, ⟨5, _⟩ => ⟨S2x4, .f32⟩
  | .hbm, ⟨6, _⟩ => ⟨S8, .f32⟩
  | .hbm, ⟨7, _⟩ => ⟨S2x4, .f32⟩
  | .hbm, ⟨8, _⟩ => ⟨S8, .f32⟩
  | .hbm, ⟨9, _⟩ => ⟨S2x8, .f32⟩
  | .hbm, ⟨10, _⟩ => ⟨S16, .f32⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S_, .f32⟩
  | .hbm, ⟨15, _⟩ => ⟨S16, .f32⟩
  | .hbm, ⟨16, _⟩ => ⟨S2x8, .f32⟩
  | .hbm, ⟨17, _⟩ => ⟨S16, .f32⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S6x128, .f32⟩
  | .hbm, ⟨25, _⟩ => ⟨S8x128, .f32⟩
  | .hbm, ⟨26, _⟩ => ⟨S8x2048x128, .f32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .i1⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S256x256, .i1⟩
  | .hbm, ⟨47, _⟩ => ⟨S256x256, .i1⟩
  | .hbm, ⟨48, _⟩ => ⟨S256x256, .i1⟩
  | .hbm, ⟨49, _⟩ => ⟨S1280x256, .i1⟩
  | .hbm, ⟨50, _⟩ => ⟨S1280x256, .bf16⟩
  | .hbm, ⟨51, _⟩ => ⟨S8x2048x128, .f32⟩
  | .hbm, ⟨52, _⟩ => ⟨S8x128x2048, .f32⟩
  | .local _ .vmem, ⟨0, _⟩ => ⟨S1x1024x128, .f32⟩
  | .local _ .vmem, ⟨1, _⟩ => ⟨S1x1024x128, .f32⟩
  | .local _ .vmem, ⟨2, _⟩ => ⟨S8x128, .f32⟩
  | .local _ .vmem, ⟨3, _⟩ => ⟨S1280x256, .bf16⟩
  | .local _ .vmem, ⟨4, _⟩ => ⟨S1x1024x128, .f32⟩
  | .local _ .vmem, ⟨5, _⟩ => ⟨S1x1024x128, .f32⟩
  | .local _ .vmem, ⟨6, _⟩ => ⟨S1x128x1024, .f32⟩
  | .local _ .vmem, ⟨7, _⟩ => ⟨S1x128x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1280x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S16384x128 : Shape := ⟨2, ![16384, 128]⟩
abbrev S1x2x4 : Shape := ⟨3, ![1, 2, 4]⟩
abbrev S1x2x8 : Shape := ⟨3, ![1, 2, 8]⟩
abbrev S8x2048x128 : Shape := ⟨3, ![8, 2048, 128]⟩
abbrev S8x2048x8 : Shape := ⟨3, ![8, 2048, 8]⟩
abbrev S8x2048x16 : Shape := ⟨3, ![8, 2048, 16]⟩
abbrev S2x4 : Shape := ⟨2, ![2, 4]⟩
abbrev S8 : Shape := ⟨1, ![8]⟩
abbrev S1x1x8 : Shape := ⟨3, ![1, 1, 8]⟩
abbrev S_ : Shape := ⟨0, ![]⟩
abbrev S2x8 : Shape := ⟨2, ![2, 8]⟩
abbrev S16 : Shape := ⟨1, ![16]⟩
abbrev S1x1x16 : Shape := ⟨3, ![1, 1, 16]⟩
abbrev S8x8x1x256x8 : Shape := ⟨5, ![8, 8, 1, 256, 8]⟩
abbrev S256x256x8 : Shape := ⟨3, ![256, 256, 8]⟩
abbrev S8x8x256x256x8 : Shape := ⟨5, ![8, 8, 256, 256, 8]⟩
abbrev S8x8x256x8 : Shape := ⟨4, ![8, 8, 256, 8]⟩
abbrev S8x32x1x64x16 : Shape := ⟨5, ![8, 32, 1, 64, 16]⟩
abbrev S64x64x16 : Shape := ⟨3, ![64, 64, 16]⟩
abbrev S8x32x64x64x16 : Shape := ⟨5, ![8, 32, 64, 64, 16]⟩
abbrev S8x32x64x16 : Shape := ⟨4, ![8, 32, 64, 16]⟩
abbrev S8x32x16 : Shape := ⟨3, ![8, 32, 16]⟩
abbrev S8x32x1x16 : Shape := ⟨4, ![8, 32, 1, 16]⟩
abbrev S8x2048x4 : Shape := ⟨3, ![8, 2048, 4]⟩
abbrev S8x2048x64 : Shape := ⟨3, ![8, 2048, 64]⟩
abbrev S8x128x2048 : Shape := ⟨3, ![8, 128, 2048]⟩

abbrev nBuf : Space → Nat
  | .hbm => 130
  | .vmem => 0
  | .smem => 0
  | _ => 0

abbrev hbmTy0_0 (i : Nat) : BufTy := match i % 128 with
  | 0 => ⟨S16384x128, .f32⟩
  | 1 => ⟨S1x2x4, .f32⟩
  | 2 => ⟨S1x2x4, .f32⟩
  | 3 => ⟨S1x2x8, .f32⟩
  | 4 => ⟨S1x2x8, .f32⟩
  | 5 => ⟨S8x2048x128, .f32⟩
  | 6 => ⟨S8x2048x8, .f32⟩
  | 7 => ⟨S8x2048x8, .f32⟩
  | 8 => ⟨S8x2048x16, .f32⟩
  | 9 => ⟨S8x2048x16, .f32⟩
  | 10 => ⟨S2x4, .f32⟩
  | 11 => ⟨S8, .f32⟩
  | 12 => ⟨S1x1x8, .f32⟩
  | 13 => ⟨S8x2048x8, .f32⟩
  | 14 => ⟨S8x2048x8, .f32⟩
  | 15 => ⟨S2x4, .f32⟩
  | 16 => ⟨S8, .f32⟩
  | 17 => ⟨S1x1x8, .f32⟩
  | 18 => ⟨S8x2048x8, .f32⟩
  | 19 => ⟨S8x2048x8, .f32⟩
  | 20 => ⟨S8x2048x8, .f32⟩
  | 21 => ⟨S_, .f32⟩
  | 22 => ⟨S8x2048x8, .f32⟩
  | 23 => ⟨S8x2048x8, .f32⟩
  | 24 => ⟨S8x2048x8, .f32⟩
  | 25 => ⟨S8x2048x8, .f32⟩
  | 26 => ⟨S8x2048x8, .i1⟩
  | 27 => ⟨S8x2048x8, .f32⟩
  | 28 => ⟨S8x2048x8, .f32⟩
  | 29 => ⟨S8x2048x8, .f32⟩
  | 30 => ⟨S8x2048x8, .f32⟩
  | 31 => ⟨S8x2048x8, .f32⟩
  | 32 => ⟨S8x2048x8, .f32⟩
  | 33 => ⟨S8x2048x8, .f32⟩
  | 34 => ⟨S8x2048x8, .f32⟩
  | 35 => ⟨S8x2048x8, .f32⟩
  | 36 => ⟨S2x8, .f32⟩
  | 37 => ⟨S16, .f32⟩
  | 38 => ⟨S16, .f32⟩
  | 39 => ⟨S16, .f32⟩
  | 40 => ⟨S2x8, .f32⟩
  | 41 => ⟨S16, .f32⟩
  | 42 => ⟨S1x1x16, .f32⟩
  | 43 => ⟨S8x2048x16, .f32⟩
  | 44 => ⟨S8x2048x16, .f32⟩
  | 45 => ⟨S_, .f32⟩
  | 46 => ⟨S8x2048x16, .f32⟩
  | 47 => ⟨S8x2048x16, .f32⟩
  | 48 => ⟨S8x2048x16, .f32⟩
  | 49 => ⟨S8x2048x16, .f32⟩
  | 50 => ⟨S8x2048x16, .i1⟩
  | 51 => ⟨S8x2048x16, .f32⟩
  | 52 => ⟨S8x2048x16, .f32⟩
  | 53 => ⟨S8x2048x16, .f32⟩
  | 54 => ⟨S8x2048x16, .f32⟩
  | 55 => ⟨S8x2048x16, .f32⟩
  | 56 => ⟨S8x2048x16, .f32⟩
  | 57 => ⟨S8x2048x16, .f32⟩
  | 58 => ⟨S8x2048x16, .f32⟩
  | 59 => ⟨S1x1x16, .f32⟩
  | 60 => ⟨S8x2048x16, .f32⟩
  | 61 => ⟨S8x2048x16, .f32⟩
  | 62 => ⟨S8x2048x16, .f32⟩
  | 63 => ⟨S8x2048x16, .f32⟩
  | 64 => ⟨S_, .f32⟩
  | 65 => ⟨S8x2048x16, .f32⟩
  | 66 => ⟨S8x2048x16, .f32⟩
  | 67 => ⟨S_, .f32⟩
  | 68 => ⟨S8x2048x16, .f32⟩
  | 69 => ⟨S8x2048x16, .f32⟩
  | 70 => ⟨S8x8x1x256x8, .f32⟩
  | 71 => ⟨S256x256x8, .i32⟩
  | 72 => ⟨S256x256x8, .i32⟩
  | 73 => ⟨S256x256x8, .i1⟩
  | 74 => ⟨S_, .f32⟩
  | 75 => ⟨S_, .f32⟩
  | 76 => ⟨S8x8x256x256x8, .i1⟩
  | 77 => ⟨S8x8x256x256x8, .f32⟩
  | 78 => ⟨S8x8x256x256x8, .f32⟩
  | 79 => ⟨S8x8x256x256x8, .f32⟩
  | 80 => ⟨S_, .f32⟩
  | 81 => ⟨S8x8x256x8, .f32⟩
  | 82 => ⟨S8x2048x8, .f32⟩
  | 83 => ⟨S256x256x8, .i1⟩
  | 84 => ⟨S_, .f32⟩
  | 85 => ⟨S_, .f32⟩
  | 86 => ⟨S8x8x256x256x8, .i1⟩
  | 87 => ⟨S8x8x256x256x8, .f32⟩
  | 88 => ⟨S8x8x256x256x8, .f32⟩
  | 89 => ⟨S8x8x256x256x8, .f32⟩
  | 90 => ⟨S_, .f32⟩
  | 91 => ⟨S8x8x256x8, .f32⟩
  | 92 => ⟨S8x2048x8, .f32⟩
  | 93 => ⟨S8x32x1x64x16, .f32⟩
  | 94 => ⟨S64x64x16, .i32⟩
  | 95 => ⟨S64x64x16, .i32⟩
  | 96 => ⟨S64x64x16, .i1⟩
  | 97 => ⟨S_, .f32⟩
  | 98 => ⟨S_, .f32⟩
  | 99 => ⟨S8x32x64x64x16, .i1⟩
  | 100 => ⟨S8x32x64x64x16, .f32⟩
  | 101 => ⟨S8x32x64x64x16, .f32⟩
  | 102 => ⟨S8x32x64x64x16, .f32⟩
  | 103 => ⟨S_, .f32⟩
  | 104 => ⟨S8x32x64x16, .f32⟩
  | 105 => ⟨S8x2048x16, .f32⟩
  | 106 => ⟨S64x64x16, .i1⟩
  | 107 => ⟨S_, .f32⟩
  | 108 => ⟨S_, .f32⟩
  | 109 => ⟨S8x32x64x64x16, .i1⟩
  | 110 => ⟨S8x32x64x64x16, .f32⟩
  | 111 => ⟨S8x32x64x64x16, .f32⟩
  | 112 => ⟨S8x32x64x64x16, .f32⟩
  | 113 => ⟨S_, .f32⟩
  | 114 => ⟨S8x32x64x16, .f32⟩
  | 115 => ⟨S8x2048x16, .f32⟩
  | 116 => ⟨S8x32x64x16, .f32⟩
  | 117 => ⟨S_, .f32⟩
  | 118 => ⟨S8x32x16, .f32⟩
  | 119 => ⟨S8x32x1x16, .f32⟩
  | 120 => ⟨S8x32x64x16, .f32⟩
  | 121 => ⟨S8x2048x16, .f32⟩
  | 122 => ⟨S8x2048x4, .f32⟩
  | 123 => ⟨S8x2048x4, .f32⟩
  | 124 => ⟨S8x2048x8, .f32⟩
  | 125 => ⟨S8x2048x8, .f32⟩
  | 126 => ⟨S_, .f32⟩
  | 127 => ⟨S8x2048x64, .f32⟩
  | _ => ⟨S16384x128, .f32⟩

abbrev hbmTy0_1 (i : Nat) : BufTy := match i % 128 with
  | 0 => ⟨S8x2048x128, .f32⟩
  | 1 => ⟨S8x128x2048, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_v31 : Ref sig .tc := ⟨.hbm, 65, rfl⟩
abbrev main_v32 : Ref sig .tc := ⟨.hbm, 66, rfl⟩
abbrev main_cst_0 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_1 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_v39 : Ref sig .tc := ⟨.hbm, 79, rfl⟩
abbrev main_cst_2 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_3 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_v43 : Ref sig .tc := ⟨.hbm, 89, rfl⟩
abbrev main_cst_4 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_5 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_v50 : Ref sig .tc := ⟨.hbm, 102, rfl⟩
abbrev main_cst_6 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_cst_7 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_v54 : Ref sig .tc := ⟨.hbm, 112, rfl⟩
abbrev main_cst_8 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_9 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_10 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩

abbrev nD : Nat := 1
abbrev τ : Topo := Topo.v7x

variable {F : FTy → Type} [FloatOps F]
-- ==== Proof.FirstValue.lean ====
module

public import proofs.«01_k».proof.Proof.Gen.FirstIdeal.Value
public import Idealize.ShloMosaic.Lib.Pipeline.ValueKit
public import Idealize.ShloMosaic.Lib.Pipeline.ReadBack
public import Idealize.ShloMosaic.Lib.Claim

/-! The first call of the input projection: what it leaves in each of its three results, as sums over the arguments. Its weight windows are at element offsets 3072 and 7184. -/

@[expose] public section

set_option maxRecDepth 16384

noncomputable section

namespace Cert.First.Hand

open Idealize.ShloMosaic Idealize.ShloMosaic.TcCoe Idealize.SL.Sem Cert.FirstIdeal Cert.FirstIdeal.Gen
open Idealize.ShloMosaic.Pipeline (Dat)

variable (m : (ℓ : Loc nD τ sig) → Buf (Elt Ideal) ℓ)

/-- The block indices of the windows at a point. -/
theorem idx : ∀ t : Fin cfg0.N, win0_0.index t = ![t.val, 0]
    ∧ win0_1.index t = ![0, 0] ∧ win0_2.index t = ![0, 0]
    ∧ win0_3.index t = ![3072, 0] ∧ win0_4.index t = ![7184, 0]
    ∧ win0_5.index t = ![t.val, 0] ∧ win0_6.index t = ![t.val, 0] ∧ win0_7.index t = ![t.val, 0] :=
  (by decide +kernel : ∀ t : Fin grid0.N, _)

/-- The argument of the norm. -/
abbrev aX (c : Dev nD) : FVec Ideal S8x2048x2048 .f32 := m ((c : Thread nD τ).loc main_arg0)
/-- The gain of the norm. -/
abbrev aG (c : Dev nD) : FVec Ideal S1x2048 .f32 := m ((c : Thread nD τ).loc main_arg1)
/-- The weight of the projection. -/
abbrev aW (c : Dev nD) : FVec Ideal S1x2048x11312 .f32 := m ((c : Thread nD τ).loc main_arg2)

/-- A row of a block normalised. -/
abbrev NB {s : ℕ} (a : FVec Ideal ⟨2, ![s, 2048]⟩ .f32) (g : FVec Ideal S1x2048 .f32) (r : Fin s) (k : Fin 2048) : EReal :=
  a (ix2 r k) * Ideal.rsqrt (Ideal.div (∑ x : Fin 2048, a (ix2 r x) * a (ix2 r x)) (Ideal.ofBits FTy.f32 1157627904#32) +
            Ideal.ofBits FTy.f32 897988541#32) * g (ix2 0 k)

/-- A row of the argument normalised. -/
abbrev N (x : FVec Ideal S8x2048x2048 .f32) (g : FVec Ideal S1x2048 .f32) (i : Fin 16384) (k : Fin 2048) : EReal :=
  NB (s := 16384) (fun j => x (ix3 ⟨(j 0).val / 2048, Nat.div_lt_of_lt_mul (j 0).isLt⟩ ⟨(j 0).val % 2048, Nat.mod_lt _ (by decide)⟩ (j 1))) g i k

/-- The small columns' weight, read off the argument. -/
abbrev SW (w : FVec Ideal S1x2048x11312 .f32) : FVec Ideal S128x2048 .bf16 := fun i =>
  if h : (i 0).val < 16 then w (ix3 0 (i 1) ⟨3072 + (i 0).val, by omega⟩)
  else if h' : (i 0).val < 48 then w (ix3 0 (i 1) ⟨7168 + (i 0).val, by omega⟩) else 0

/-- The rows of the argument a point reads. -/
abbrev xB (c : Dev nD) (t : Fin cfg0.N) : FVec Ideal S1024x2048 .f32 := iblk m c 0 t
/-- The gain a point reads. -/
abbrev gB (c : Dev nD) (t : Fin cfg0.N) : FVec Ideal S1x2048 .f32 := iblk m c 1 t
/-- The first 1024 rows of the transposed weight, as the point holds them. -/
abbrev w2B (c : Dev nD) (t : Fin cfg0.N) : FVec Ideal S1024x2048 .f32 := X0_2 m c t
/-- The window of 16 rows of the transposed weight, from row 3072. -/
abbrev w3B (c : Dev nD) (t : Fin cfg0.N) : FVec Ideal S16x2048 .f32 := iblk m c 3 t
/-- The window of 32 rows of the transposed weight, from row 7184. -/
abbrev w4B (c : Dev nD) (t : Fin cfg0.N) : FVec Ideal S32x2048 .f32 := iblk m c 4 t

/-- The small columns' weight as the scratch holds it. -/
abbrev WS (a : FVec Ideal S16x2048 .f32) (b : FVec Ideal S32x2048 .f32) : FVec Ideal S128x2048 .bf16 := fun i =>
  if h : (i 0).val < 16 then a (ix2 ⟨(i 0).val, h⟩ (i 1))
  else if h' : (i 0).val < 48 then b (ix2 ⟨(i 0).val - 16, by omega⟩ (i 1)) else 0

/-- What every point leaves of the normalised activations. -/
theorem point7 (c : Dev nD) (t : Fin cfg0.N) (i : S1024x2048.Idx) :
    (outsAt0 m c t.val t.isLt).2.2.1 i = NB (xB m c t) (gB m c t) (i 0) (i 1) := by
  by_cases q0 : t.val % 16 = 0
  on_goal 1 => rw [outsAt0_A m c t q0]; frame_out
  on_goal 2 => rw [outsAt0_B m c t q0]; frame_out
  all_goals
    canon_tiles y h
    all_goals
      open_payloads
      pointwise
      rw [show i 1 = y 1 from Fin.ext h1]
      generalize i 0 = r at h0 ⊢
      obtain ⟨r, hr⟩ := r
      simp only at h0
      subst h0
      rfl

/-- Where the last store holds an element, the stores leave its payload. -/
theorem canon_at {Val : EltTy → Type} {S : Shape} {e : EltTy} [∀ e, Nonempty (Val e)] {off size : Fin S.rank → Nat}
    {inb : ∀ a, off a + size a ≤ S.size a} (w : (Rect.unit off size inb).shape.Idx → Val e)
    (L : List (View.Piece Val S e)) (y : S.Idx) (x : (Rect.unit off size inb).shape.Idx)
    (h : ∀ a, (y a : ℕ) = off a + x a) :
    View.canon ((⟨Rect.unit off size inb, w⟩ : View.Piece Val S e) :: L) y = w x := by
  have e : y = (Rect.unit off size inb).emb x := funext fun a => Fin.ext (by
    rw [h a, Rect.emb_apply]; show _ = off a + 1 * (x a : Nat); omega)
  rw [e]; exact View.canon_cons_emb _ w L x

/-- Where the last store misses an element, the stores before it decide. -/
theorem canon_off {Val : EltTy → Type} {S : Shape} {e : EltTy} [∀ e, Nonempty (Val e)] {off size : Fin S.rank → Nat}
    {inb : ∀ a, off a + size a ≤ S.size a} (w : (Rect.unit off size inb).shape.Idx → Val e)
    (L : List (View.Piece Val S e)) (y : S.Idx) (a : Fin S.rank) (h : (y a : ℕ) < off a ∨ off a + size a ≤ y a) :
    View.canon ((⟨Rect.unit off size inb, w⟩ : View.Piece Val S e) :: L) y = View.canon L y :=
  View.canon_cons_of_not_mem _ _ fun hm => by
    have := (Rect.mem_set_unit (inb := inb)).mp hm a; omega

/-- The small columns' weight after the first point. -/
theorem small_first (c : Dev nD) (t : Fin cfg0.N) (q0 : t.val % 16 = 0) (i : S128x2048.Idx) :
    (outsAt0 m c t.val t.isLt).2.2.2.2 i = WS (w3B m c t) (w4B m c t) i := by
  rw [outsAt0_A m c t q0]; frame_out
  have l1 : (i 1).val < 2048 := (i 1).isLt
  by_cases a : (i 0).val < 16
  · refine (canon_off _ _ _ (0 : Fin 2) (Or.inl a)).trans ?_
    refine (canon_at _ _ _ (ix2 ⟨(i 0).val, a⟩ ⟨(i 1).val, l1⟩) (fun b => by fin_cases b <;> exact (Nat.zero_add _).symm)).trans ?_
    refine Eq.trans ?_ (dif_pos a).symm
    pointwise [k0_pay4]
  by_cases b : (i 0).val < 48
  · refine (canon_at _ _ _ (ix2 ⟨(i 0).val - 16, by omega⟩ ⟨(i 1).val, l1⟩) (fun b => by
      fin_cases b
      · show (i 0).val = 16 + ((i 0).val - 16); omega
      · exact (Nat.zero_add _).symm)).trans ?_
    refine Eq.trans ?_ ((dif_neg a).trans (dif_pos b)).symm
    pointwise [k0_pay5]
  · refine (canon_off _ _ _ (0 : Fin 2) (Or.inr (not_lt.mp b))).trans ?_
    refine (canon_off _ _ _ (0 : Fin 2) (Or.inr (not_lt.mp a))).trans ?_
    refine Eq.trans ?_ ((dif_neg a).trans (dif_neg b)).symm
    pointwise [k0_pay3]
    exact congrFun (View.canon_cons_unit_lit _ _ _ (by decide)) _

/-- What a point leaves of the small columns: the normalised rows times the weight kept at that point. -/
theorem point6 (c : Dev nD) (t : Fin cfg0.N) (i : S1024x128.Idx) :
    (outsAt0 m c t.val t.isLt).2.1 i = ∑ k : Fin 2048, NB (xB m c t) (gB m c t) (i 0) k * (outsAt0 m c t.val t.isLt).2.2.2.2 (ix2 (i 1) k) := by
  by_cases q0 : t.val % 16 = 0
  on_goal 1 => rw [outsAt0_A m c t q0]; frame_out
  on_goal 2 => rw [outsAt0_B m c t q0]; frame_out
  all_goals
    canon_tiles y h
    all_goals
      open_payloads
      simp only [View.readCov_eq_canon', read_unread_whole]
      pointwise
      rw [show i 1 = y 1 from Fin.ext h1]
      generalize i 0 = r at h0 ⊢
      obtain ⟨r, hr⟩ := r
      simp only at h0
      subst h0
      rfl

/-- What a point leaves of the first wide columns: the normalised rows times the weight kept at that point. -/
theorem point5 (c : Dev nD) (t : Fin cfg0.N) (i : S1024x1024.Idx) :
    (outsAt0 m c t.val t.isLt).1 i = ∑ k : Fin 2048, NB (xB m c t) (gB m c t) (i 0) k * (outsAt0 m c t.val t.isLt).2.2.2.1 (ix2 (i 1) k) := by
  by_cases q0 : t.val % 16 = 0
  on_goal 1 => rw [outsAt0_A m c t q0]; frame_out
  on_goal 2 => rw [outsAt0_B m c t q0]; frame_out
  all_goals
    canon_tiles y h
    all_goals
      open_payloads
      try simp only [View.readCov_eq_canon', read_unread_whole]
      pointwise
      rw [show i 1 = y 1 from Fin.ext h1]
      generalize i 0 = r at h0 ⊢
      obtain ⟨r, hr⟩ := r
      simp only at h0
      subst h0
      rfl

/-- The weight block after the first point. -/
theorem big_first (c : Dev nD) (t : Fin cfg0.N) (q0 : t.val % 16 = 0) (i : S1024x2048.Idx) :
    (outsAt0 m c t.val t.isLt).2.2.2.1 i = w2B m c t i := by
  rw [outsAt0_A m c t q0]; frame_out
  pointwise [k0_pay2]

/-- Where an element of the weight window lies. -/
theorem emb2 (t : Fin cfg0.N) (y : ((cfg0.win 2).xblock (cfg0.grid.coords t)).Idx) :
    ((((cfg0.win 2).blk t).view.emb y) 0).val = (y 0).val
    ∧ ((((cfg0.win 2).blk t).view.emb y) 1).val = (y 1).val :=
  ⟨win0_2.rect_emb_val_of_index_zero t 0 (by rw [(idx t).2.2.1]; rfl) y,
    win0_2.rect_emb_val_of_index_zero t 1 (by rw [(idx t).2.2.1]; rfl) y⟩

/-- Where an element of the window of activations lies. -/
theorem emb0 (t : Fin cfg0.N) (y : S1024x2048.Idx) :
    ((((cfg0.win 0).blk t).view.emb y) 0).val = t.val * 1024 + (y 0).val
    ∧ ((((cfg0.win 0).blk t).view.emb y) 1).val = (y 1).val := by
  refine ⟨?_, ?_⟩ <;> blk_simp [idx t] <;> rfl

/-- Where an element of the sixteen-row window lies. -/
theorem emb3 (t : Fin cfg0.N) (y : S16x2048.Idx) :
    ((((cfg0.win 3).blk t).view.emb y) 0).val = 3072 + (y 0).val
    ∧ ((((cfg0.win 3).blk t).view.emb y) 1).val = (y 1).val := by
  refine ⟨(win0_3.rect_emb_val_off t y 0).trans ?_, (win0_3.rect_emb_val_off t y 1).trans ?_⟩
  · show win0_3.index t 0 + _ = _
    rw [(idx t).2.2.2.1]; rfl
  · show win0_3.index t 1 + _ = _
    rw [(idx t).2.2.2.1]; show 0 + _ = _; rw [Nat.zero_add]

/-- Where an element of the thirty-two-row window lies. -/
theorem emb4 (t : Fin cfg0.N) (y : S32x2048.Idx) :
    ((((cfg0.win 4).blk t).view.emb y) 0).val = 7184 + (y 0).val
    ∧ ((((cfg0.win 4).blk t).view.emb y) 1).val = (y 1).val := by
  refine ⟨(win0_4.rect_emb_val_off t y 0).trans ?_, (win0_4.rect_emb_val_off t y 1).trans ?_⟩
  · show win0_4.index t 0 + _ = _
    rw [(idx t).2.2.2.2.1]; rfl
  · show win0_4.index t 1 + _ = _
    rw [(idx t).2.2.2.2.1]; show 0 + _ = _; rw [Nat.zero_add]

/-- The transposed weight at an element. -/
theorem v4_apply (c : Dev nD) (z : S11312x2048.Idx) (k : Fin 2048) (n : Fin 11312) (e1 : (z 1).val = k.val)
    (e0 : (z 0).val = n.val) : V m c main_v4 z = aW m c (ix3 0 k n) := by
  entry_read
  pointwise
  exact congrArg₂ (fun a b => aW m c (ix3 0 a b)) (Fin.ext e1) (Fin.ext e0)

/-- The sixteen-row window at an element: the argument's columns from 3072. -/
theorem w3_apply (c : Dev nD) (t : Fin cfg0.N) (y : S16x2048.Idx) :
    w3B m c t y = aW m c (ix3 0 (y 1) ⟨3072 + (y 0).val, by have : (y 0).val < 16 := (y 0).isLt; omega⟩) := by
  have e := emb3 t y
  exact v4_apply m c _ _ _ e.2 e.1

/-- The thirty-two-row window at an element: the argument's columns from 7184. -/
theorem w4_apply (c : Dev nD) (t : Fin cfg0.N) (y : S32x2048.Idx) :
    w4B m c t y = aW m c (ix3 0 (y 1) ⟨7184 + (y 0).val, by have : (y 0).val < 32 := (y 0).isLt; omega⟩) := by
  have e := emb4 t y
  exact v4_apply m c _ _ _ e.2 e.1

/-- The weight block at an element: the argument's first columns. -/
theorem w2_apply (c : Dev nD) (t : Fin cfg0.N) (y : S1024x2048.Idx) :
    w2B m c t y = aW m c (ix3 0 (y 1) ⟨(y 0).val, by have : (y 0).val < 1024 := (y 0).isLt; omega⟩) := by
  show X0_2 m c t y = _
  unfold X0_2 Pipeline.Window.fill
  rw [dif_pos (moved0_2 t y)]
  show V m c main_v4 (((cfg0.win 2).blk t).view.emb _) = _
  have e := emb2 t (fun a => ⟨(y a).val, ((cfg0.win 2).moved_iff _ y).mp (moved0_2 t y) a⟩)
  exact v4_apply m c _ _ _ e.2 e.1

/-- What the first point leaves of the small columns, its scratch read back. -/
theorem small_first' (c : Dev nD) (t : Fin cfg0.N) (q0 : t.val % 16 = 0) (i : S128x2048.Idx) :
    (outsAt0 m c t.val t.isLt).2.2.2.2 i = SW (aW m c) i := by
  rw [small_first m c t q0 i]
  unfold WS SW
  split_ifs with h h'
  · exact w3_apply ..
  · rw [w4_apply]
    exact congrArg (fun b => aW m c (ix3 0 (i 1) b)) (Fin.ext (show 7184 + ((i 0).val - 16) = _ by
      show _ = 7168 + (i 0).val
      omega))
  · rfl

/-- The normalised rows of a block are the argument's rows normalised. -/
theorem nb_apply (c : Dev nD) (t : Fin cfg0.N) (r : Fin 1024) (k : Fin 2048) (i : Fin 16384)
    (hi : i.val = t.val * 1024 + r.val) : NB (xB m c t) (gB m c t) r k = N (aX m c) (aG m c) i k := by
  have hx : ∀ k : Fin 2048, xB m c t (ix2 r k) = aX m c (ix3 ⟨i.val / 2048, Nat.div_lt_of_lt_mul i.isLt⟩ ⟨i.val % 2048, Nat.mod_lt _ (by decide)⟩ k) := by
    intro k
    show V m c main_v0 (((cfg0.win 0).blk t).view.emb (ix2 r k)) = _
    obtain ⟨e0, e1⟩ := emb0 t (ix2 r k)
    generalize ((cfg0.win 0).blk t).view.emb _ = z at e0 e1 ⊢
    change S16384x2048.Idx at z
    entry_read
    pointwise
    rw [show z 0 = i from Fin.ext (e0.trans hi.symm), show z 1 = k from Fin.ext e1]
  have hg : gB m c t (ix2 0 k) = aG m c (ix2 0 k) := by
    show V m c main_v2 (((cfg0.win 1).blk t).view.emb (ix2 0 k)) = _
    have e1 : ((((cfg0.win 1).blk t).view.emb (ix2 (0 : Fin 1) k)) 1).val = k.val := by
      blk_simp [idx t]
    generalize ((cfg0.win 1).blk t).view.emb _ = z at e1 ⊢
    change S1x2048.Idx at z
    entry_read
    pointwise
    refine congrArg (aG m c) (funext fun a => ?_)
    fin_cases a
    · exact Subsingleton.elim (α := Fin 1) _ _
    · exact Fin.ext e1
  unfold NB N
  simp only [hx, hg]
  rfl
/-- The small columns' weight is kept: every point sees the argument's columns. -/
theorem small (c : Dev nD) : ∀ (n : ℕ) (h : n < cfg0.N) (i : S128x2048.Idx),
    (outsAt0 m c n h).2.2.2.2 i = SW (aW m c) i := by
  intro n
  induction n with
  | zero => intro h i; exact small_first' m c ⟨0, h⟩ rfl i
  | succ n ih =>
    intro h i
    by_cases h0 : (n + 1) % 16 = 0
    · exact small_first' m c ⟨n + 1, h⟩ h0 i
    · rw [outsAt0_B m c ⟨n + 1, h⟩ h0]; dsimp only [sout0_B_1]
      exact ih (Nat.lt_of_succ_lt h) i

/-- The weight block is kept: every point sees the argument's first columns. -/
theorem big (c : Dev nD) : ∀ (n : ℕ) (h : n < cfg0.N) (i : S1024x2048.Idx),
    (outsAt0 m c n h).2.2.2.1 i
      = aW m c (ix3 0 (i 1) ⟨(i 0).val, by have : (i 0).val < 1024 := (i 0).isLt; omega⟩) := by
  intro n
  induction n with
  | zero => intro h i; exact (big_first m c ⟨0, h⟩ rfl i).trans (w2_apply ..)
  | succ n ih =>
    intro h i
    by_cases h0 : (n + 1) % 16 = 0
    · exact (big_first m c ⟨n + 1, h⟩ h0 i).trans (w2_apply ..)
    · rw [outsAt0_B m c ⟨n + 1, h⟩ h0]; dsimp only [sout0_B_0]
      exact ih (Nat.lt_of_succ_lt h) i

/-- The third result: the activations normalised. -/
abbrev OUT7 (x : FVec Ideal S8x2048x2048 .f32) (g : FVec Ideal S1x2048 .f32) : FVec Ideal S16384x2048 .bf16 := fun i =>
  N x g (i 0) (i 1)

/-- The second result: the narrow projection. -/
abbrev OUT6 (x : FVec Ideal S8x2048x2048 .f32) (g : FVec Ideal S1x2048 .f32) (w : FVec Ideal S1x2048x11312 .f32) :
    FVec Ideal S16384x128 .f32 := fun i => ∑ k : Fin 2048, N x g (i 0) k * SW w (ix2 (i 1) k)

/-- The first result, below column 1024: the wide projection's first columns. -/
abbrev OUT5 (x : FVec Ideal S8x2048x2048 .f32) (g : FVec Ideal S1x2048 .f32) (w : FVec Ideal S1x2048x11312 .f32) :
    FVec Ideal S16384x11264 .f32 := fun i => ∑ k : Fin 2048, N x g (i 0) k * w (ix3 0 k ⟨(i 1).val, by have : (i 1).val < 11264 := (i 1).isLt; omega⟩)

/-- Where an element of the blocks of the three results lies. -/
theorem emb7 (t : Fin cfg0.N) (y : S1024x2048.Idx) :
    ((((cfg0.win 7).blk t).view.emb y) 0).val = t.val * 1024 + (y 0).val
    ∧ ((((cfg0.win 7).blk t).view.emb y) 1).val = (y 1).val := by
  refine ⟨?_, ?_⟩ <;> blk_simp [idx t] <;> rfl

/-- Where an element of the small columns' block lies. -/
theorem emb6 (t : Fin cfg0.N) (y : S1024x128.Idx) :
    ((((cfg0.win 6).blk t).view.emb y) 0).val = t.val * 1024 + (y 0).val
    ∧ ((((cfg0.win 6).blk t).view.emb y) 1).val = (y 1).val := by
  refine ⟨?_, ?_⟩ <;> blk_simp [idx t] <;> rfl

/-- Where an element of the first columns' block lies. -/
theorem emb5 (t : Fin cfg0.N) (y : S1024x1024.Idx) :
    ((((cfg0.win 5).blk t).view.emb y) 0).val = t.val * 1024 + (y 0).val
    ∧ ((((cfg0.win 5).blk t).view.emb y) 1).val = (y 1).val := by
  refine ⟨?_, ?_⟩ <;> blk_simp [idx t] <;> rfl

/-- The third result array after the run. -/
theorem final7 (c : Dev nD) : (dats m 0 c).arrAt 7 cfg0.N = OUT7 (aX m c) (aG m c) := by
  refine (dats m 0 c).arrAt_eq_of_covers 7 _ (by decide +kernel) fun t hf y => ?_
  have e := emb7 t y
  blk_simp
  rw [after0_7]
  refine (point7 m c t y).trans ?_
  exact (nb_apply m c t _ _ _ e.1).trans (congrArg (N (aX m c) (aG m c) _) (Fin.ext e.2.symm))

/-- The second result array after the run. -/
theorem final6 (c : Dev nD) : (dats m 0 c).arrAt 6 cfg0.N = OUT6 (aX m c) (aG m c) (aW m c) := by
  refine (dats m 0 c).arrAt_eq_of_covers 6 _ (by decide +kernel) fun t hf y => ?_
  have e := emb6 t y
  blk_simp
  rw [after0_6]
  refine (point6 m c t y).trans ?_
  refine Finset.sum_congr rfl fun k _ => ?_
  rw [nb_apply m c t _ k _ e.1, small]
  exact congrArg (fun b => _ * SW (aW m c) (ix2 b k)) (Fin.ext e.2.symm)

/-- The first result array after the run, in its first 1024 columns. -/
theorem final5 (c : Dev nD) (i : S16384x11264.Idx) (hi : (i 1).val < 1024) :
    (dats m 0 c).arrAt 5 cfg0.N i = OUT5 (aX m c) (aG m c) (aW m c) i := by
  have key : (dats m 0 c).arrAt 5 cfg0.N = fun i => if (i 1).val / 1024 = 0 then
      OUT5 (aX m c) (aG m c) (aW m c) i else V m c main_v5_0 i := by
    refine (dats m 0 c).arrAt_eq_of_coversWhere 5 _ (fun β => β (1 : Fin _) = 0) (by decide +kernel) (fun t hf y => ?_) (fun j => Iff.rfl)
    have e := emb5 t y
    blk_simp
    rw [after0_5]
    refine (point5 m c t y).trans ?_
    refine Finset.sum_congr rfl fun k _ => ?_
    rw [nb_apply m c t _ k _ e.1, big]
    exact congrArg (fun b => _ * aW m c (ix3 0 k b)) (Fin.ext e.2.symm)
  rw [key]
  exact if_pos (by omega)

end Cert.First.Hand
end
-- ==== Proof.FirstRef.lean ====
module

public import proofs.«01_k».proof.Proof.FirstValue
public import proofs.«01_k».proof.Proof.Gen.FirstRefIdeal.Run
public import proofs.«01_k».proof.Proof.Gen.FirstRefIdeal.Read
public import proofs.«01_k».proof.Defs
public import proofs.«01_k».proof.Proof.Gen.On_columns_of_first
public import Idealize.ShloMosaic.Lib.Pipeline.ValueKit
public import Idealize.ShloMosaic.Lib.WordCmp

/-! The first call of the input projection against its reference. -/

@[expose] public section

set_option maxRecDepth 16384

noncomputable section

namespace Cert.First.Hand

open Idealize.ShloMosaic Idealize.ShloMosaic.TcCoe Idealize.SL.Sem Cert.FirstRefIdeal Cert.FirstRefIdeal.Read
variable (x : FVec Ideal S8x2048x2048 .f32) (g : FVec Ideal S1x2048 .f32) (w : FVec Ideal S1x2048x11312 .f32)

/-- The reference's third result is the normalised activations. -/
theorem ref7 : val_main_v33 (F := Ideal) x g = OUT7 x g := by
  funext i
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v32, val_main_v33]
  rfl

/-- The reference's second result is the narrow projection, zero past column 48. -/
theorem ref6 : val_main_v31 (F := Ideal) x g w = OUT6 x g w := by
  funext i
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13,
   val_main_v14, val_main_v15, val_main_v20, val_main_v21, val_main_v24, val_main_v25, val_main_v28, val_main_call0_v0, val_main_c, val_main_v29, val_main_v31]
  have l0 : (i 0).val < 16384 := (i 0).isLt
  have l1 : (i 1).val < 128 := (i 1).isLt
  by_cases h : (i 1).val < 48
  · rw [dif_pos ⟨by omega, by omega, h⟩]
    refine Eq.trans ?_ (Finset.sum_congr rfl fun k _ => congrArg (fun b => N x g (i 0) k * b) (?_ : w (ix3 0 k ⟨if (i 1).val < 16 then 3072 + (i 1).val else 7168 + (i 1).val, by split_ifs <;> omega⟩) = _))
    · split_ifs <;> first
        | (exfalso; omega)
        | exact Finset.sum_congr rfl fun k _ => congrArg (fun b => N x g (i 0) k * w (ix3 0 k b)) (Fin.ext (by
            simp only; split_ifs <;> omega))
    · show _ = SW w (ix2 (i 1) k)
      unfold SW
      by_cases h1 : (i 1).val < 16
      · simp [h1]
      · simp [h1, h]
  · rw [dif_neg (by omega)]
    refine Eq.trans ?_ (Finset.sum_eq_zero fun k _ => ?_).symm
    · simp [FloatOps.sitofp]
    · show _ * SW w (ix2 (i 1) k) = 0
      rw [show SW w (ix2 (i 1) k) = 0 from (dif_neg (show ¬ (i 1).val < 16 by omega)).trans (dif_neg h)]
      exact mul_zero _

/-- The reference's first result is the wide projection, in its first 1024 columns. -/
theorem ref5 (i : S16384x11264.Idx) (hi : (i 1).val < 1024) : val_main_v30 (F := Ideal) x g w i = OUT5 x g w i := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13,
   val_main_v14, val_main_v15, val_main_v16, val_main_v17, val_main_v27, val_main_v30]
  split_ifs <;> first
    | (exfalso; omega)
    | exact Finset.sum_congr rfl fun k _ => congrArg (fun b => N x g (i 0) k * w (ix3 0 k b)) (Fin.ext (by
        simp only; omega))
    | rfl

/-- The mask names the columns below 1024 of the first result. -/
theorem mask {i : S16384x11264.Idx} (h : (Cert.On_columns_of_first.fn (F := Ideal) x g w).1 i = 1#1) : (i 1).val < 1024 := by
  by_contra hn
  have l1 : (i 1).val < 11264 := (i 1).isLt
  have : (Cert.On_columns_of_first.fn (F := Ideal) x g w).1 i = 0#1 := by
    pointwise [Cert.On_columns_of_first.fn]
    rw [WordCmp.cmpi_slt_ofNat (by omega) (by omega), decide_eq_false hn]
    rfl
  rw [this] at h
  exact absurd h (by decide)

/-- The first projection call and its reference leave the same three results, the first in the columns it computes. -/
theorem algebraic : Cert.algebraic_FirstIdeal_FirstRefIdeal_on_columns_of_first (hFirstIdeal := Cert.FirstIdeal.Gen.facts)
    (hFirstRefIdeal := Cert.FirstRefIdeal.Gen.facts) (hOn_columns_of_first := Cert.On_columns_of_first.Gen.facts) := by
  intro m ρ m' ρ' _ hagree
  refine ⟨fun c => OUT5 (aX m c) (aG m c) (aW m c), fun c => OUT6 (aX m c) (aG m c) (aW m c), fun c => OUT7 (aX m c) (aG m c), ?_, ?_⟩
  · refine (θ_run _ _ _).mono (fun r h c => ?_) (Cert.FirstIdeal.Value.run_blocks m ρ)
    obtain ⟨h1, h2, h3, h4⟩ := h c
    exact ⟨fun i hi => (congrFun h1 i).trans (final5 m c i (mask _ _ _ hi)), fun i _ => congrFun (h2.trans (final6 m c)) i,
      fun i _ => congrFun (h3.trans (final7 m c)) i, h4⟩
  · refine (θ_run _ _ _).mono (fun r h c => ?_) (Cert.FirstRefIdeal.Value.run m' ρ')
    obtain ⟨h1, h2, h3, h4⟩ := h c
    rw [val_main_v30_eq, (hagree c).1, (hagree c).2.1, (hagree c).2.2] at h1
    rw [val_main_v31_eq, (hagree c).1, (hagree c).2.1, (hagree c).2.2] at h2
    rw [val_main_v33_eq, (hagree c).1, (hagree c).2.1] at h3
    exact ⟨fun i hi => (congrFun h1 i).trans (ref5 _ _ _ i (mask _ _ _ hi)), fun i _ => congrFun (h2.trans (ref6 _ _ _)) i,
      fun i _ => congrFun (h3.trans (ref7 _ _)) i, h4⟩

end Cert.First.Hand
end
-- ==== Proof.RestValue.lean ====
module

public import proofs.«01_k».proof.Proof.Gen.RestIdeal.Value
public import Idealize.ShloMosaic.Lib.Pipeline.ValueKit
public import Idealize.ShloMosaic.Lib.Pipeline.ReadBack
public import Idealize.ShloMosaic.Lib.Claim

/-! The second call of the input projection: what it leaves in the projection, as sums over the arguments. Its weight window is at an element offset that skips the small columns. -/

@[expose] public section

set_option maxRecDepth 16384

noncomputable section

namespace Cert.Rest.Hand

open Idealize.ShloMosaic Idealize.ShloMosaic.TcCoe Idealize.SL.Sem Cert.RestIdeal Cert.RestIdeal.Gen
open Idealize.ShloMosaic.Pipeline (Dat)

variable (m : (ℓ : Loc nD τ sig) → Buf (Elt Ideal) ℓ)

/-- The column of the weight that column `n` of the wide projection takes: the sixteen small gate columns at 3072 and
    the thirty-two at 7184 are left out. -/
def wcol (n : ℕ) : ℕ := if n < 3072 then n else if n < 7168 then n + 16 else n + 48

/-- That column lies in the weight. -/
theorem wcol_lt {n : ℕ} (h : n < 11264) : wcol n < 11312 := by unfold wcol; split_ifs <;> omega

/-- The block indices of the three windows at a point. -/
theorem idx : ∀ t : Fin cfg0.N, win0_0.index t = ![t.val % 16, 0]
    ∧ win0_1.index t = ![wcol ((t.val / 16 + 1) * 1024), 0]
    ∧ win0_2.index t = ![t.val % 16, t.val / 16 + 1] ∧ t.val / 16 < 10 :=
  (by decide +kernel : ∀ t : Fin grid0.N, _)

/-- The wide projection over the arguments: the columns below 1024 stay, each other one is a product. -/
abbrev OUT (h : FVec Ideal S16384x2048 .bf16) (w : FVec Ideal S1x2048x11312 .f32) (p : FVec Ideal S16384x11264 .f32) :
    FVec Ideal S16384x11264 .f32 := fun i =>
  if (i 1).val < 1024 then p i
  else ∑ k : Fin 2048, h (ix2 (i 0) k) * w (ix3 0 k ⟨wcol (i 1).val, wcol_lt (i 1).isLt⟩)

/-- The payload the body stores: the block of activations times the stored weight block, transposed. -/
theorem pay2_apply (a b : Vec Ideal S1024x2048 .bf16) (y : S1024x1024.Idx) :
    k0_pay2 a b y = ∑ k : Fin 2048, a (ix2 (y 0) k) * b (ix2 (y 1) k) := by
  pointwise [k0_pay2]

/-- The payload the weight scratch takes: the weight block itself. -/
theorem pay1_apply (a : Vec Ideal S1024x2048 .f32) (y : S1024x2048.Idx) : k0_pay1 a y = a y := by
  pointwise [k0_pay1]

/-- Where an element of the weight block at a point lies in the transposed weight. -/
theorem emb1 (t : Fin cfg0.N) (y : S1024x2048.Idx) :
    ((((cfg0.win 1).blk t).view.emb y) 0).val = wcol ((t.val / 16 + 1) * 1024) + (y 0).val
    ∧ ((((cfg0.win 1).blk t).view.emb y) 1).val = (y 1).val := by
  refine ⟨(win0_1.rect_emb_val_off t y 0).trans ?_, (win0_1.rect_emb_val_off t y 1).trans ?_⟩
  · show win0_1.index t 0 + _ = _
    rw [(idx t).2.1]; rfl
  · show win0_1.index t 1 + _ = _
    rw [(idx t).2.1]; show 0 + _ = _; rw [Nat.zero_add]

/-- Within a tile the source columns run on. -/
theorem wcol_tile {j r : ℕ} (hj : j < 10) (hr : r < 1024) : wcol ((j + 1) * 1024) + r = wcol ((j + 1) * 1024 + r) := by
  unfold wcol; split_ifs <;> omega

/-- The block of activations at a point. -/
abbrev hB (c : Dev nD) (t : Fin cfg0.N) : FVec Ideal S1024x2048 .bf16 := iblk m c 0 t

/-- The weight block at a point. -/
abbrev wB (c : Dev nD) (t : Fin cfg0.N) : FVec Ideal S1024x2048 .f32 := iblk m c 1 t

/-- The weight block at an element: the argument at the block's columns. -/
theorem wB_apply (c : Dev nD) (t : Fin cfg0.N) (y : S1024x2048.Idx) :
    wB m c t y
      = (m ((c : Thread nD τ).loc main_arg1) : FVec Ideal S1x2048x11312 .f32)
        (ix3 0 (y 1) ⟨wcol ((t.val / 16 + 1) * 1024 + (y 0).val), wcol_lt (by
          have := (idx t).2.2.2; have : (y 0).val < 1024 := (y 0).isLt; omega)⟩) := by
  obtain ⟨e0, e1⟩ := emb1 t y
  have ht := (idx t).2.2.2
  have hy : (y 0).val < 1024 := (y 0).isLt
  rw [wcol_tile ht hy] at e0
  show V m c main_v1 (((cfg0.win 1).blk t).view.emb y) = _
  generalize ((cfg0.win 1).blk t).view.emb y = z at e0 e1 ⊢
  change S11312x2048.Idx at z
  entry_read
  pointwise
  exact congrArg₂ (fun a b => (m ((c : Thread nD τ).loc main_arg1) : FVec Ideal S1x2048x11312 .f32) (ix3 0 a b))
    (Fin.ext e1) (Fin.ext e0)

/-- A point that is not the first of its run sees the weight block its predecessor saw. -/
theorem wB_pred (c : Dev nD) (t t' : Fin cfg0.N) (h : t.val / 16 = t'.val / 16) (y : S1024x2048.Idx) :
    wB m c t y = wB m c t' y := by
  rw [wB_apply, wB_apply]
  simp only [h]

/-- The stored weight block after point `n`: the weight block of that point's tile, rounded. -/
theorem scratch (c : Dev nD) : ∀ (n : ℕ) (h : n < cfg0.N) (y : S1024x2048.Idx),
    (outsAt0 m c n h).2 y = wB m c ⟨n, h⟩ y := by
  intro n
  induction n with
  | zero =>
    intro h y
    rw [outsAt0_A m c ⟨0, h⟩ rfl]; frame_out
    exact pay1_apply _ _
  | succ n ih =>
    intro h y
    by_cases h0 : (n + 1) % 16 = 0
    · rw [outsAt0_A m c ⟨n + 1, h⟩ h0]; frame_out
      exact pay1_apply _ _
    · rw [outsAt0_B m c ⟨n + 1, h⟩ h0]; dsimp only [sout0_B_0]
      refine (ih (Nat.lt_of_succ_lt h) y).trans (wB_pred m c _ _ ?_ y)
      show n / 16 = (n + 1) / 16
      omega

/-- What a point writes back, at an element of its block. -/
theorem point (c : Dev nD) (t : Fin cfg0.N) (y : S1024x1024.Idx) :
    (outsAt0 m c t.val t.isLt).1 y
      = ∑ k : Fin 2048, hB m c t (ix2 (y 0) k) * wB m c t (ix2 (y 1) k) := by
  by_cases h0 : t.val % 16 = 0
  · rw [outsAt0_A m c t h0]; frame_out
    rw [pay2_apply]
    exact Finset.sum_congr rfl fun k _ => congrArg _ (pay1_apply _ _)
  · rw [outsAt0_B m c t h0]; frame_out
    rw [pay2_apply, read_unread_whole]
    refine Finset.sum_congr rfl fun k _ => congrArg _ ?_
    refine (scratch m c (t.val - 1) _ _).trans (wB_pred m c _ _ ?_ _)
    show (t.val - 1) / 16 = t.val / 16
    omega

/-- The block of activations at an element: the argument at the block's rows. -/
theorem hB_apply (c : Dev nD) (t : Fin cfg0.N) (r : Fin 1024) (k : Fin 2048) (i : Fin 16384)
    (hi : i.val = t.val % 16 * 1024 + r.val) :
    hB m c t (ix2 r k) = (m ((c : Thread nD τ).loc main_arg0) : FVec Ideal S16384x2048 .bf16) (ix2 i k) := by
  show iblk m c 0 t (ix2 r k) = _
  blk_ext [iblk, V, idx t]

/-- Where an element of the result block at a point lies in the result. -/
theorem emb2 (t : Fin cfg0.N) (y : S1024x1024.Idx) :
    ((((cfg0.win 2).blk t).view.emb y) 0).val = t.val % 16 * 1024 + (y 0).val
    ∧ ((((cfg0.win 2).blk t).view.emb y) 1).val = (t.val / 16 + 1) * 1024 + (y 1).val := by
  refine ⟨?_, ?_⟩ <;> blk_simp [idx t] <;> rfl

/-- The result array after the run: its first 1024 columns as launched, the others the projection. -/
theorem final (c : Dev nD) : (dats m 0 c).arrAt 2 cfg0.N
    = OUT (m ((c : Thread nD τ).loc main_arg0)) (m ((c : Thread nD τ).loc main_arg1)) (m ((c : Thread nD τ).loc main_arg2)) := by
  have key : (dats m 0 c).arrAt 2 cfg0.N = fun i => if 1 ≤ (i 1).val / 1024 then
      OUT (m ((c : Thread nD τ).loc main_arg0)) (m ((c : Thread nD τ).loc main_arg1)) (m ((c : Thread nD τ).loc main_arg2)) i
      else V m c main_v2 i := by
    refine (dats m 0 c).arrAt_eq_of_coversWhere 2 _ (fun β => 1 ≤ β (1 : Fin _)) (by decide +kernel) (fun t hf y => ?_) (fun j => Iff.rfl)
    obtain ⟨e0, e1⟩ := emb2 t y
    blk_simp
    rw [after0_2]
    refine (point m c t y).trans ?_
    change ((win0_2.blk t).view.emb y 0).val = _ at e0
    change ((win0_2.blk t).view.emb y 1).val = _ at e1
    generalize (win0_2.blk t).view.emb y = z at e0 e1 ⊢
    change S16384x11264.Idx at z
    rw [show OUT _ _ _ z = _ from if_neg (by omega)]
    refine Finset.sum_congr rfl fun k _ => ?_
    rw [hB_apply m c t (y 0) k (z 0) e0, wB_apply]
    congr 3
    exact Fin.ext (congrArg wcol e1.symm)
  rw [key]
  funext i
  by_cases h : (i 1).val < 1024
  · rw [if_neg (by omega)]
    refine Eq.trans ?_ (if_pos h).symm
    entry_read
    rfl
  · rw [if_pos (by omega)]

end Cert.Rest.Hand
end
-- ==== Proof.RestRef.lean ====
module

public import proofs.«01_k».proof.Proof.RestValue
public import proofs.«01_k».proof.Proof.Gen.RestRefIdeal.Run
public import proofs.«01_k».proof.Proof.Gen.RestRefIdeal.Read
public import proofs.«01_k».proof.Defs
public import Idealize.ShloMosaic.Lib.WordCmp

/-! The second call of the input projection against its reference. -/

@[expose] public section

set_option maxRecDepth 16384

noncomputable section

namespace Cert.Rest.Hand

open Idealize.ShloMosaic Idealize.ShloMosaic.TcCoe Idealize.SL.Sem Cert.RestRefIdeal Cert.RestRefIdeal.Read

/-- The reference's result is the wide projection over its arguments. -/
theorem ref (h : FVec Ideal S16384x2048 .bf16) (w : FVec Ideal S1x2048x11312 .f32) (p : FVec Ideal S16384x11264 .f32) :
    val_main_v19 (F := Ideal) h w p = OUT h w p := by
  funext i
  pointwise [val_main_v19, val_main_v18, val_main_v17, val_main_v16, val_main_c, val_main_v14, val_main_v3, val_main_v4, val_main_v5, val_main_v6, val_main_v7, val_main_v8, val_main_v9, val_main_v10, val_main_v11, val_main_v12, val_main_v13, val_main_v2, val_main_v1, val_main_v0, OUT]
  have hi : (i 1).val < 11264 := (i 1).isLt
  rw [WordCmp.cmpi_slt_ofNat (by omega) (by omega)]
  by_cases h1 : (i 1).val < 1024
  · simp [h1, Scalar.select]
  · rw [if_neg h1]
    simp only [h1, decide_false, BitVec.ofBool_false]
    refine (WordCmp.select_zero _ _).trans ?_
    split_ifs <;> first
      | (exfalso; omega)
      | exact Finset.sum_congr rfl fun k _ => congrArg (fun n => h (ix2 (i 0) k) * w (ix3 0 k n))
          (Fin.ext (by simp only [wcol]; split_ifs <;> omega))

/-- The second projection call and its reference leave the same result. -/
theorem algebraic : Cert.algebraic_RestIdeal_RestRefIdeal (hRestIdeal := Cert.RestIdeal.Gen.facts)
    (hRestRefIdeal := Cert.RestRefIdeal.Gen.facts) := by
  intro m ρ m' ρ' _ hagree
  refine ⟨fun c => OUT (m (c.tc.loc Cert.RestIdeal.main_arg0)) (m (c.tc.loc Cert.RestIdeal.main_arg1))
      (m (c.tc.loc Cert.RestIdeal.main_arg2)), ?_, ?_⟩
  · refine (θ_run _ _ _).mono (fun r h c => ?_) (Cert.RestIdeal.Value.run_blocks m ρ)
    obtain ⟨h1, h2⟩ := h c
    exact ⟨h1.trans (final m c), h2⟩
  · refine (θ_run _ _ _).mono (fun r h c => ?_) (Cert.RestRefIdeal.Value.run m' ρ')
    obtain ⟨h1, h2⟩ := h c
    refine ⟨?_, h2⟩
    rw [h1, val_main_v19_eq, ref, (hagree c).1, (hagree c).2.1, (hagree c).2.2]

end Cert.Rest.Hand
end
-- ==== Proof.MixValue.lean ====
module

public import proofs.«01_k».proof.Proof.Gen.MixIdeal.Value
public import Idealize.ShloMosaic.Lib.Pipeline.ValueKit
public import Idealize.ShloMosaic.Lib.Pipeline.ReadBack
public import Idealize.ShloMosaic.Lib.Claim

/-! The merge call: what it leaves in the residual stream and in its norm, as sums over the arguments. -/

@[expose] public section

set_option maxRecDepth 16384

noncomputable section

namespace Cert.Mix.Hand

open Idealize.ShloMosaic Idealize.ShloMosaic.TcCoe Idealize.SL.Sem Cert.MixIdeal Cert.MixIdeal.Gen
open Idealize.ShloMosaic.Pipeline (Dat)

variable (m : (ℓ : Loc nD τ sig) → Buf (Elt Ideal) ℓ)

/-- The block indices of the windows at a point. -/
theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![t.val, 9] ∧ win0_6.index t = ![t.val, 10]
    ∧ win0_7.index t = ![0, 0] ∧ win0_8.index t = ![0, 0] ∧ win0_9.index t = ![0, 0] ∧ win0_10.index t = ![0, 0]
    ∧ win0_11.index t = ![t.val, 0] ∧ win0_12.index t = ![t.val, 0] := (by decide +kernel : ∀ t : Fin grid0.N, _)

/-- The residual stream. -/
abbrev aX (c : Dev nD) : FVec Ideal S8x2048x2048 .f32 := m ((c : Thread nD τ).loc main_arg0)
/-- The first branch's result. -/
abbrev aM (c : Dev nD) : FVec Ideal S8x2048x1024 .bf16 := m ((c : Thread nD τ).loc main_arg1)
/-- The second branch's result. -/
abbrev aD (c : Dev nD) : FVec Ideal S8x2048x1024 .bf16 := m ((c : Thread nD τ).loc main_arg2)
/-- The wide projection. -/
abbrev aP (c : Dev nD) : FVec Ideal S16384x11264 .f32 := m ((c : Thread nD τ).loc main_arg3)
/-- The first branch's weight. -/
abbrev aWM (c : Dev nD) : FVec Ideal S1x1024x2048 .f32 := m ((c : Thread nD τ).loc main_arg4)
/-- The second branch's weight. -/
abbrev aWD (c : Dev nD) : FVec Ideal S1x1024x2048 .f32 := m ((c : Thread nD τ).loc main_arg5)
/-- The output weight. -/
abbrev aWO (c : Dev nD) : FVec Ideal S1x2048x2048 .f32 := m ((c : Thread nD τ).loc main_arg6)
/-- The gain of the norm. -/
abbrev aG (c : Dev nD) : FVec Ideal S1x2048 .f32 := m ((c : Thread nD τ).loc main_arg7)

/-- The batch of a token. -/
abbrev bOf (i : Fin 16384) : Fin 8 := ⟨i.val / 2048, Nat.div_lt_of_lt_mul i.isLt⟩
/-- The position of a token in its batch. -/
abbrev pOf (i : Fin 16384) : Fin 2048 := ⟨i.val % 2048, Nat.mod_lt _ (by decide)⟩

section Blocks
variable (c : Dev nD) (t : Fin cfg0.N) (r : Fin 256) (i : Fin 16384) (hi : i.val = t.val * 256 + r.val)
include hi

/-- The block of the residual stream at an element. -/
theorem b0 (k : Fin 2048) : (iblk m c 0 t (ix2 r k) : EReal) = aX m c (ix3 (bOf i) (pOf i) k) := by
  trans V m c main_v0 (ix2 i k)
  · blk_ext [iblk, idx t]
  · entry_read
    pointwise

/-- The block of the first branch's result at an element. -/
theorem b1 (k : Fin 1024) : (iblk m c 1 t (ix2 r k) : EReal) = aM m c (ix3 (bOf i) (pOf i) k) := by
  trans V m c main_v1 (ix2 i k)
  · blk_ext [iblk, idx t]
  · entry_read
    pointwise

/-- The block of the second branch's result at an element. -/
theorem b2 (k : Fin 1024) : (iblk m c 2 t (ix2 r k) : EReal) = aD m c (ix3 (bOf i) (pOf i) k) := by
  trans V m c main_v2 (ix2 i k)
  · blk_ext [iblk, idx t]
  · entry_read
    pointwise

/-- The block of the first gate, its left half at an element. -/
theorem b3 (k : Fin 1024) : (iblk m c 3 t (ix2 r k) : EReal) = aP m c (ix2 i ⟨7168 + k.val, by omega⟩) := by
  blk_ext [iblk, V, idx t]
/-- The block of the first gate, its right half at an element. -/
theorem b4 (k : Fin 1024) : (iblk m c 4 t (ix2 r k) : EReal) = aP m c (ix2 i ⟨8192 + k.val, by omega⟩) := by
  blk_ext [iblk, V, idx t]
/-- The block of the second gate, its left half at an element. -/
theorem b5 (k : Fin 1024) : (iblk m c 5 t (ix2 r k) : EReal) = aP m c (ix2 i ⟨9216 + k.val, by omega⟩) := by
  blk_ext [iblk, V, idx t]
/-- The block of the second gate, its right half at an element. -/
theorem b6 (k : Fin 1024) : (iblk m c 6 t (ix2 r k) : EReal) = aP m c (ix2 i ⟨10240 + k.val, by omega⟩) := by
  blk_ext [iblk, V, idx t]
end Blocks
/-- The block of the first branch's weight at an element. -/
theorem b7 (c : Dev nD) (t : Fin cfg0.N) (k : Fin 1024) (n : Fin 2048) : (iblk m c 7 t (ix2 k n) : EReal) = aWM m c (ix3 0 k n) := by
  trans V m c main_v4 (ix2 k n)
  · blk_ext [iblk, idx t]
  · entry_read
    pointwise
/-- The block of the second branch's weight at an element. -/
theorem b8 (c : Dev nD) (t : Fin cfg0.N) (k : Fin 1024) (n : Fin 2048) : (iblk m c 8 t (ix2 k n) : EReal) = aWD m c (ix3 0 k n) := by
  trans V m c main_v6 (ix2 k n)
  · blk_ext [iblk, idx t]
  · entry_read
    pointwise
/-- The block of the output weight at an element. -/
theorem b9 (c : Dev nD) (t : Fin cfg0.N) (k : Fin 2048) (n : Fin 2048) : (iblk m c 9 t (ix2 k n) : EReal) = aWO m c (ix3 0 k n) := by
  trans V m c main_v8 (ix2 k n)
  · blk_ext [iblk, idx t]
  · entry_read
    pointwise
/-- The block of the gain at an element. -/
theorem b10 (c : Dev nD) (t : Fin cfg0.N) (n : Fin 2048) : (iblk m c 10 t (ix2 0 n) : EReal) = aG m c (ix2 0 n) := by
  trans V m c main_v10 (ix2 0 n)
  · blk_ext [iblk, idx t]
  · entry_read
    pointwise

/-- The gated sum of the two branches at a token and a column. -/
abbrev MIX (ym yd : FVec Ideal S8x2048x1024 .bf16) (p : FVec Ideal S16384x11264 .f32) (wm wd : FVec Ideal S1x1024x2048 .f32)
    (i : Fin 16384) (n : Fin 2048) : EReal :=
  Ideal.div 1 (1 + Ideal.exp (-p (ix2 i ⟨7168 + n.val, by omega⟩))) * ∑ k : Fin 1024, ym (ix3 (bOf i) (pOf i) k) * wm (ix3 0 k n)
    + Ideal.div 1 (1 + Ideal.exp (-p (ix2 i ⟨9216 + n.val, by omega⟩))) * ∑ k : Fin 1024, yd (ix3 (bOf i) (pOf i) k) * wd (ix3 0 k n)

/-- The residual stream after the two branches, at a token and a column. -/
abbrev RES (x : FVec Ideal S8x2048x2048 .f32) (ym yd : FVec Ideal S8x2048x1024 .bf16) (p : FVec Ideal S16384x11264 .f32)
    (wm wd : FVec Ideal S1x1024x2048 .f32) (wo : FVec Ideal S1x2048x2048 .f32) (i : Fin 16384) (n : Fin 2048) : EReal :=
  x (ix3 (bOf i) (pOf i) n) + ∑ k : Fin 2048, MIX ym yd p wm wd i k * wo (ix3 0 k n)

/-- A row normalised, at a column. -/
abbrev NORM (f : Fin 2048 → EReal) (g : FVec Ideal S1x2048 .f32) (n : Fin 2048) : EReal :=
  f n * Ideal.rsqrt (Ideal.div (∑ k : Fin 2048, f k * f k) (Ideal.ofBits FTy.f32 1157627904#32)
    + Ideal.ofBits FTy.f32 897988541#32) * g (ix2 0 n)

/-- The first payload: the residual block plus the product of the gated sum with the output weight. -/
theorem pay1_apply (a : FVec Ideal S256x2048 .f32) (x : Vec Ideal S256x2048 .f32) (w : Vec Ideal S2048x2048 .bf16) (y : S256x2048.Idx) :
    k0_pay1 a x w y = x y + ∑ k : Fin 2048, a (ix2 (y 0) k) * w (ix2 k (y 1)) := by
  pointwise [k0_pay1]

/-- The second payload: the rows of the first, normalised. -/
theorem pay2_apply (a : FVec Ideal S256x2048 .f32) (x : Vec Ideal S256x2048 .f32) (w : Vec Ideal S2048x2048 .bf16)
    (g : Vec Ideal S1x2048 .f32) (y : S256x2048.Idx) :
    k0_pay2 a x w g y = NORM (fun n => k0_pay1 a x w (ix2 (y 0) n)) g (y 1) := by
  simp only [NORM, pay1_apply]
  pointwise [k0_pay2, k0_pay1]

section Point
variable (c : Dev nD) (t : Fin cfg0.N) (r : Fin 256) (i : Fin 16384) (hi : i.val = t.val * 256 + r.val)
include hi

/-- The gated sum a point computes. -/
theorem mix_point (n : Fin 2048) :
    (k0_pay4 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) (ix2 r n)
      = MIX (aM m c) (aD m c) (aP m c) (aWM m c) (aWD m c) i n := by
  unfold k0_pay4
  pointwise [k0_pay3]
  refine congrArg₂ (· + ·) (congrArg₂ (· * ·) (congrArg (fun z => Ideal.div 1 (1 + Ideal.exp z)) ?_)
      (Finset.sum_congr rfl fun k _ => congrArg₂ (· * ·) (b1 m c t r i hi k) (b7 m c t k n)))
    (congrArg₂ (· * ·) (congrArg (fun z => Ideal.div 1 (1 + Ideal.exp z)) ?_)
      (Finset.sum_congr rfl fun k _ => congrArg₂ (· * ·) (b2 m c t r i hi k) (b8 m c t k n)))
  · rw [sub_eq_add_neg, zero_add]
    refine congrArg Neg.neg ?_
    split_ifs with h
    · exact b3 m c t r i hi ⟨n.val, h⟩
    · refine (b4 m c t r i hi ⟨n.val - 1024, by omega⟩).trans (congrArg (fun z => aP m c (ix2 i z)) (Fin.ext ?_))
      show 8192 + (n.val - 1024) = 7168 + n.val
      omega
    · contradiction
  · rw [sub_eq_add_neg, zero_add]
    refine congrArg Neg.neg ?_
    split_ifs with h
    · exact b5 m c t r i hi ⟨n.val, h⟩
    · refine (b6 m c t r i hi ⟨n.val - 1024, by omega⟩).trans (congrArg (fun z => aP m c (ix2 i z)) (Fin.ext ?_))
      show 10240 + (n.val - 1024) = 9216 + n.val
      omega
    · contradiction

/-- The residual row a point computes. -/
theorem res_point (n : Fin 2048) :
    k0_pay1 (k0_pay4 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) (iblk m c 0 t) (iblk m c 9 t) (ix2 r n)
      = RES (aX m c) (aM m c) (aD m c) (aP m c) (aWM m c) (aWD m c) (aWO m c) i n := by
  refine (pay1_apply _ _ _ _).trans (congrArg₂ (· + ·) (b0 m c t r i hi n) ?_)
  exact Finset.sum_congr rfl fun k _ => congrArg₂ (· * ·) (mix_point m c t r i hi k) (b9 m c t k n)

end Point

section Place
variable (c : Dev nD) (t : Fin cfg0.N) (y : S256x2048.Idx) (j : S16384x2048.Idx) (h0 : (j 0).val = t.val * 256 + (y 0).val)
  (h1 : (j 1).val = (y 1).val)
include h0 h1

/-- What a point leaves in the first result, at a place of it. -/
theorem out_point :
    k0_pay1 (k0_pay4 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) (iblk m c 0 t) (iblk m c 9 t) y
      = RES (aX m c) (aM m c) (aD m c) (aP m c) (aWM m c) (aWD m c) (aWO m c) (j 0) (j 1) := by
  rw [show j 1 = y 1 from Fin.ext h1]
  refine Eq.trans ?_ (res_point m c t (y 0) (j 0) h0 (y 1))
  exact congrArg _ (eq_ix2 y)

/-- What a point leaves in the second result, at a place of it. -/
theorem norm_point :
    k0_pay2 (k0_pay4 (iblk m c 0 t) (iblk m c 1 t) (iblk m c 2 t) (iblk m c 3 t) (iblk m c 4 t) (iblk m c 5 t) (iblk m c 6 t)
        (iblk m c 7 t) (iblk m c 8 t) (iblk m c 9 t) (iblk m c 10 t)) (iblk m c 0 t) (iblk m c 9 t) (iblk m c 10 t) y
      = NORM (RES (aX m c) (aM m c) (aD m c) (aP m c) (aWM m c) (aWD m c) (aWO m c) (j 0)) (aG m c) (j 1) := by
  rw [show j 1 = y 1 from Fin.ext h1]
  refine (pay2_apply _ _ _ _ y).trans ?_
  rw [funext fun n => res_point m c t (y 0) (j 0) h0 n]
  exact congrArg (fun z => _ * z) (b10 m c t (y 1))

end Place

/-- The first result: the residual stream after the branches. -/
abbrev OUT1 (x : FVec Ideal S8x2048x2048 .f32) (ym yd : FVec Ideal S8x2048x1024 .bf16) (p : FVec Ideal S16384x11264 .f32)
    (wm wd : FVec Ideal S1x1024x2048 .f32) (wo : FVec Ideal S1x2048x2048 .f32) : FVec Ideal S16384x2048 .f32 := fun i =>
  RES x ym yd p wm wd wo (i 0) (i 1)

/-- The second result: its rows normalised. -/
abbrev OUT2 (x : FVec Ideal S8x2048x2048 .f32) (ym yd : FVec Ideal S8x2048x1024 .bf16) (p : FVec Ideal S16384x11264 .f32)
    (wm wd : FVec Ideal S1x1024x2048 .f32) (wo : FVec Ideal S1x2048x2048 .f32) (g : FVec Ideal S1x2048 .f32) :
    FVec Ideal S16384x2048 .bf16 := fun i => NORM (RES x ym yd p wm wd wo (i 0)) g (i 1)

/-- Where an element of the first result's block lies. -/
theorem emb11 (t : Fin cfg0.N) (y : S256x2048.Idx) :
    ((((cfg0.win 11).blk t).view.emb y) 0).val = t.val * 256 + (y 0).val
    ∧ ((((cfg0.win 11).blk t).view.emb y) 1).val = (y 1).val := by
  refine ⟨?_, ?_⟩ <;> blk_simp [idx t] <;> rfl

/-- Where an element of the second result's block lies. -/
theorem emb12 (t : Fin cfg0.N) (y : S256x2048.Idx) :
    ((((cfg0.win 12).blk t).view.emb y) 0).val = t.val * 256 + (y 0).val
    ∧ ((((cfg0.win 12).blk t).view.emb y) 1).val = (y 1).val := by
  refine ⟨?_, ?_⟩ <;> blk_simp [idx t] <;> rfl

/-- The first result array after the run. -/
theorem final11 (c : Dev nD) : (dats m 0 c).arrAt 11 cfg0.N
    = OUT1 (aX m c) (aM m c) (aD m c) (aP m c) (aWM m c) (aWD m c) (aWO m c) := by
  refine (dats m 0 c).arrAt_eq_of_covers 11 _ (by decide +kernel) fun t hf y => ?_
  have e := emb11 t y
  blk_simp
  rw [after0_11]
  frame_out
  exact out_point m c t y _ e.1 e.2

/-- The second result array after the run. -/
theorem final12 (c : Dev nD) : (dats m 0 c).arrAt 12 cfg0.N
    = OUT2 (aX m c) (aM m c) (aD m c) (aP m c) (aWM m c) (aWD m c) (aWO m c) (aG m c) := by
  refine (dats m 0 c).arrAt_eq_of_covers 12 _ (by decide +kernel) fun t hf y => ?_
  have e := emb12 t y
  blk_simp
  rw [after0_12]
  frame_out
  exact norm_point m c t y _ e.1 e.2

end Cert.Mix.Hand
end
-- ==== Proof.MixRef.lean ====
module

public import proofs.«01_k».proof.Proof.MixValue
public import proofs.«01_k».proof.Proof.Gen.MixRefIdeal.Run
public import proofs.«01_k».proof.Proof.Gen.MixRefIdeal.Read
public import proofs.«01_k».proof.Defs
public import Idealize.ShloMosaic.Lib.Pipeline.ValueKit

/-! The merge call against its reference. -/

@[expose] public section

set_option maxRecDepth 16384

noncomputable section

namespace Cert.Mix.Hand

open Idealize.ShloMosaic Idealize.ShloMosaic.TcCoe Idealize.SL.Sem Cert.MixRefIdeal Cert.MixRefIdeal.Read
variable (x : FVec Ideal S8x2048x2048 .f32) (ym yd : FVec Ideal S8x2048x1024 .bf16) (p : FVec Ideal S16384x11264 .f32)
    (wm wd : FVec Ideal S1x1024x2048 .f32) (wo : FVec Ideal S1x2048x2048 .f32) (g : FVec Ideal S1x2048 .f32)

/-- The reference's residual stream at an element. -/
theorem ref27 (b : Fin 8) (s : Fin 2048) (n : Fin 2048) (i : Fin 16384) (hi : i.val = b.val * 2048 + s.val) :
    val_main_v27 (F := Ideal) x ym yd p wm wd wo (ix3 b s n) = RES x ym yd p wm wd wo i n := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2]
  have e1 : bOf i = b := Fin.ext (by show i.val / 2048 = b.val; omega)
  have e2 : pOf i = s := Fin.ext (by show i.val % 2048 = s.val; omega)
  have e3 : (⟨b.val * 2048 + s.val, by omega⟩ : Fin 16384) = i := Fin.ext hi.symm
  have e4 : ∀ k : Fin 2048, (⟨7168 + (2048 + k.val), by omega⟩ : Fin 11264) = ⟨9216 + k.val, by omega⟩ := fun k => Fin.ext (by
    show 7168 + (2048 + k.val) = 9216 + k.val; omega)
  simp only [e3, e4, RES, MIX, e1, e2]

/-- The reference's first result is the residual stream after the branches. -/
theorem ref1 : val_main_v42 (F := Ideal) x ym yd p wm wd wo = OUT1 x ym yd p wm wd wo := by
  funext i
  pointwise [val_main_v42]
  exact ref27 _ _ _ _ _ _ _ _ _ _ _ (by simp only; omega)

/-- The reference's second result is the rows of the first, normalised. -/
theorem ref2 : val_main_v44 (F := Ideal) x ym yd p wm wd wo g = OUT2 x ym yd p wm wd wo g := by
  funext i
  pointwise [val_main_v28, val_main_v29, val_main_v30, val_main_v31, val_main_v32, val_main_v33, val_main_v34, val_main_v35, val_main_v36, val_main_v37, val_main_v38, val_main_v39, val_main_v40, val_main_v41, val_main_v43, val_main_v44, val_main_cst_3, val_main_cst_4, val_main_cst_5]
  have e := fun n => ref27 x ym yd p wm wd wo (bOf (i 0)) (pOf (i 0)) n (i 0) (by simp only; omega)
  simp only [e]
  exact congrArg (fun z => z * _ * _) (e (i 1))

/-- The merge call and its reference leave the same two results. -/
theorem algebraic : Cert.algebraic_MixIdeal_MixRefIdeal (hMixIdeal := Cert.MixIdeal.Gen.facts)
    (hMixRefIdeal := Cert.MixRefIdeal.Gen.facts) := by
  intro m ρ m' ρ' _ hagree
  refine ⟨fun c => OUT1 (aX m c) (aM m c) (aD m c) (aP m c) (aWM m c) (aWD m c) (aWO m c),
    fun c => OUT2 (aX m c) (aM m c) (aD m c) (aP m c) (aWM m c) (aWD m c) (aWO m c) (aG m c), ?_, ?_⟩
  · refine (θ_run _ _ _).mono (fun r h c => ?_) (Cert.MixIdeal.Value.run_blocks m ρ)
    obtain ⟨h1, h2, h3⟩ := h c
    exact ⟨h1.trans (final11 m c), h2.trans (final12 m c), h3⟩
  · refine (θ_run _ _ _).mono (fun r h c => ?_) (Cert.MixRefIdeal.Value.run m' ρ')
    obtain ⟨h1, h2, h3⟩ := h c
    obtain ⟨a0, a1, a2, a3, a4, a5, a6, a7⟩ := hagree c
    refine ⟨?_, ?_, h3⟩
    · rw [h1, val_main_v42_eq, ref1, a0, a1, a2, a3, a4, a5, a6]
    · rw [h2, val_main_v44_eq, ref2, a0, a1, a2, a3, a4, a5, a6, a7]

end Cert.Mix.Hand
end
-- ==== Proof.FfnValue.lean ====
module

public import proofs.«01_k».proof.Proof.Gen.FfnIdeal.Value
public import Idealize.ShloMosaic.Lib.Pipeline.ValueKit
public import Idealize.ShloMosaic.Lib.Pipeline.ReadBack
public import Idealize.ShloMosaic.Lib.Claim

/-! The feed-forward call: what it leaves in its result, the eight slices of the inner axis summed up and the rows normalised. -/

@[expose] public section

set_option maxRecDepth 16384

noncomputable section

namespace Cert.Ffn.Hand

open Idealize.ShloMosaic Idealize.ShloMosaic.TcCoe Idealize.SL.Sem Cert.FfnIdeal Cert.FfnIdeal.Gen
open Idealize.ShloMosaic.Pipeline (Dat)

variable (m : (ℓ : Loc nD τ sig) → Buf (Elt Ideal) ℓ)

/-- The block indices of the windows at a point. -/
theorem idx : ∀ t : Fin cfg0.N, win0_0.index t = ![t.val / 8, 0] ∧ win0_1.index t = ![t.val / 8, 0] ∧ win0_2.index t = ![0, 0]
    ∧ win0_3.index t = ![0, t.val % 8] ∧ win0_4.index t = ![t.val % 8, 0] ∧ win0_5.index t = ![t.val / 8, 0] :=
  (by decide +kernel : ∀ t : Fin grid0.N, _)

/-- The residual stream. -/
abbrev aX (c : Dev nD) : FVec Ideal S16384x2048 .f32 := m ((c : Thread nD τ).loc main_arg0)
/-- The normalised residual stream. -/
abbrev aH (c : Dev nD) : FVec Ideal S16384x2048 .bf16 := m ((c : Thread nD τ).loc main_arg1)
/-- The first weight. -/
abbrev aW1 (c : Dev nD) : FVec Ideal S1x2048x8192 .f32 := m ((c : Thread nD τ).loc main_arg2)
/-- The second weight. -/
abbrev aW2 (c : Dev nD) : FVec Ideal S1x8192x2048 .f32 := m ((c : Thread nD τ).loc main_arg3)
/-- The gain of the norm. -/
abbrev aG (c : Dev nD) : FVec Ideal S2048 .f32 := m ((c : Thread nD τ).loc main_arg4)

section Blocks
variable (c : Dev nD) (t : Fin cfg0.N) (r : Fin 512) (i : Fin 16384) (hi : i.val = t.val / 8 * 512 + r.val)

include hi in
/-- The block of the residual stream at an element. -/
theorem b0 (k : Fin 2048) : (iblk m c 0 t (ix2 r k) : EReal) = aX m c (ix2 i k) := by
  blk_ext [iblk, V, idx t]

include hi in
/-- The block of the normalised residual stream at an element. -/
theorem b1 (k : Fin 2048) : (iblk m c 1 t (ix2 r k) : EReal) = aH m c (ix2 i k) := by
  blk_ext [iblk, V, idx t]

/-- The block of the gain at an element. -/
theorem b2 (k : Fin 2048) : (iblk m c 2 t (ix2 0 k) : EReal) = aG m c (ix1 k) := by
  trans V m c main_v0 (ix2 0 k)
  · blk_ext [iblk, idx t]
  · entry_read
    pointwise

variable (l : Fin 8192) (k : Fin 1024) (hl : l.val = t.val % 8 * 1024 + k.val)
include hl

/-- The block of the first weight at an element. -/
theorem b3 (x : Fin 2048) : (iblk m c 3 t (ix2 x k) : EReal) = aW1 m c (ix3 0 x l) := by
  trans V m c main_v2 (ix2 x l)
  · blk_ext [iblk, idx t]
  · entry_read
    pointwise

/-- The block of the second weight at an element. -/
theorem b4 (n : Fin 2048) : (iblk m c 4 t (ix2 k n) : EReal) = aW2 m c (ix3 0 l n) := by
  trans V m c main_v4 (ix2 l n)
  · blk_ext [iblk, idx t]
  · entry_read
    pointwise

end Blocks

/-- The part of the feed-forward product one slice of the inner axis gives, at a row and a column of a block. -/
abbrev PART (h : Vec Ideal S512x2048 .bf16) (w : Vec Ideal S2048x1024 .bf16) (u : Vec Ideal S1024x2048 .bf16)
    (r : Fin 512) (n : Fin 2048) : EReal :=
  ∑ k : Fin 1024, max (∑ x : Fin 2048, h (ix2 r x) * w (ix2 x k)) 0 * max (∑ x : Fin 2048, h (ix2 r x) * w (ix2 x k)) 0
    * u (ix2 k n)

/-- A row normalised, at a column. -/
abbrev NORM (f g : Fin 2048 → EReal) (n : Fin 2048) : EReal :=
  f n * Ideal.rsqrt (Ideal.div (∑ k : Fin 2048, f k * f k) (Ideal.ofBits FTy.f32 1157627904#32)
    + Ideal.ofBits FTy.f32 897988541#32) * g n

/-- The residual row of a block after the feed-forward: the residual, what the accumulator held, and the last part. -/
abbrev ROW (x a : Vec Ideal S512x2048 .f32) (h : Vec Ideal S512x2048 .bf16) (w : Vec Ideal S2048x1024 .bf16)
    (u : Vec Ideal S1024x2048 .bf16) (r : Fin 512) (n : Fin 2048) : EReal :=
  x (ix2 r n) + (a (ix2 r n) + PART h w u r n)

/-- The gain's row as a function of the column. -/
abbrev GAIN (g : Vec Ideal S1x2048 .f32) (n : Fin 2048) : EReal := g (ix2 0 n)

/-- The payload of a first point: one slice's part. -/
theorem pay1_apply (h : Vec Ideal S512x2048 .bf16) (w : Vec Ideal S2048x1024 .bf16) (u : Vec Ideal S1024x2048 .bf16) (y : S512x2048.Idx) :
    k0_pay1 h w u y = PART h w u (y 0) (y 1) := by
  pointwise [k0_pay1]

/-- The payload of a middle point: what the accumulator held plus one slice's part. -/
theorem pay2_apply (a : Vec Ideal S512x2048 .f32) (h : Vec Ideal S512x2048 .bf16) (w : Vec Ideal S2048x1024 .bf16) (u : Vec Ideal S1024x2048 .bf16) (y : S512x2048.Idx) :
    k0_pay2 a h w u y = a y + PART h w u (y 0) (y 1) := by
  pointwise [k0_pay2]

/-- A first point leaves its part in the accumulator. -/
theorem ptA (c : Dev nD) (t : Fin cfg0.N) (e : t.val % 8 = 0) (r : Fin 512) (n : Fin 2048) :
    (outsAt0 m c t.val t.isLt).2 (ix2 r n) = PART (iblk m c 1 t) (iblk m c 3 t) (iblk m c 4 t) r n := by
  rw [outsAt0_A m c t e (by omega) (by omega)]
  frame_out
  exact pay1_apply _ _ _ _

/-- A middle point adds its part to the accumulator. -/
theorem ptB (c : Dev nD) (t : Fin cfg0.N) (e : 1 ≤ t.val % 8 ∧ t.val % 8 ≤ 6) (r : Fin 512) (n : Fin 2048) :
    (outsAt0 m c t.val t.isLt).2 (ix2 r n) = (outsAt0 m c (t.val - 1) (Nat.lt_of_le_of_lt (Nat.sub_le _ _) t.isLt)).2 (ix2 r n)
      + PART (iblk m c 1 t) (iblk m c 3 t) (iblk m c 4 t) r n := by
  rw [outsAt0_B m c t (by omega) e (by omega)]
  frame_out
  simp only [read_unread_whole]
  exact pay2_apply _ _ _ _ _

/-- What the last point stores at an element: the residual plus the whole feed-forward product, its row normalised. -/
theorem ptC (c : Dev nD) (t : Fin cfg0.N) (e : t.val % 8 = 7) (y : S512x2048.Idx) :
    (outsAt0 m c t.val t.isLt).1 y = NORM (ROW (iblk m c 0 t)
        (outsAt0 m c (t.val - 1) (Nat.lt_of_le_of_lt (Nat.sub_le _ _) t.isLt)).2 (iblk m c 1 t) (iblk m c 3 t) (iblk m c 4 t) (y 0))
      (GAIN (iblk m c 2 t)) (y 1) := by
  rw [outsAt0_C m c t (by omega) (by omega) e]
  frame_out
  simp only [read_unread_whole]
  generalize (outsAt0 m c (t.val - 1) _).2 = a
  generalize (iblk m c 0 t : Vec Ideal S512x2048 .f32) = x0
  generalize (iblk m c 1 t : Vec Ideal S512x2048 .bf16) = x1
  generalize (iblk m c 2 t : Vec Ideal S1x2048 .f32) = x2
  generalize (iblk m c 3 t : Vec Ideal S2048x1024 .bf16) = x3
  generalize (iblk m c 4 t : Vec Ideal S1024x2048 .bf16) = x4
  clear e
  suffices a0 : ∀ (r : Fin 512) (n : Fin 2048), r.val = (y 0).val → n.val = (y 1).val → _ = NORM (ROW x0 a x1 x3 x4 r) (GAIN x2) n from
    a0 _ _ rfl rfl
  intro r n q0 q1
  canon_tiles x h <;> open_payloads <;> pointwise [NORM, ROW, GAIN, PART]
  all_goals
    rw [show n = x 1 from Fin.ext (q1.trans h1)]
    replace h0 := q0.trans h0
    clear q0 q1
    obtain ⟨r, hr⟩ := r
    simp only at h0
    subst h0
    rfl

/-- The squared rectified product of a token and an inner column. -/
abbrev ACT (h : FVec Ideal S16384x2048 .bf16) (w : FVec Ideal S1x2048x8192 .f32) (i : Fin 16384) (l : Fin 8192) : EReal :=
  max (∑ x : Fin 2048, h (ix2 i x) * w (ix3 0 x l)) 0 * max (∑ x : Fin 2048, h (ix2 i x) * w (ix3 0 x l)) 0

/-- One term of the second product, zero past the inner axis. -/
def TERM (h : FVec Ideal S16384x2048 .bf16) (w : FVec Ideal S1x2048x8192 .f32) (u : FVec Ideal S1x8192x2048 .f32)
    (i : Fin 16384) (n : Fin 2048) (l : ℕ) : EReal :=
  if hl : l < 8192 then ACT h w i ⟨l, hl⟩ * u (ix3 0 ⟨l, hl⟩ n) else 0

/-- The part of a point is its slice of the terms. -/
theorem part_point (c : Dev nD) (t : Fin cfg0.N) (r : Fin 512) (i : Fin 16384) (hi : i.val = t.val / 8 * 512 + r.val) (n : Fin 2048) :
    PART (iblk m c 1 t) (iblk m c 3 t) (iblk m c 4 t) r n
      = ∑ k ∈ Finset.range 1024, TERM (aH m c) (aW1 m c) (aW2 m c) i n (t.val % 8 * 1024 + k) := by
  rw [Finset.sum_range]
  refine Finset.sum_congr rfl fun k _ => ?_
  have hl : t.val % 8 * 1024 + k.val < 8192 := by omega
  rw [TERM, dif_pos hl]
  exact congrArg₂ (fun a b : EReal => max a 0 * max a 0 * b)
    (Finset.sum_congr rfl fun x _ => congrArg₂ (· * ·) (b1 m c t r i hi x) (b3 m c t ⟨_, hl⟩ k rfl x)) (b4 m c t ⟨_, hl⟩ k rfl n)

/-- What the accumulator holds after each point but the last of a row of points. -/
theorem acc (c : Dev nD) (i : Fin 16384) (r : Fin 512) (n : Fin 2048) (q : ℕ) (hq : i.val = q * 512 + r.val) :
    ∀ (s : ℕ) (hs : s ≤ 6) (h : 8 * q + s < cfg0.N), (outsAt0 m c (8 * q + s) h).2 (ix2 r n)
      = ∑ l ∈ Finset.range ((s + 1) * 1024), TERM (aH m c) (aW1 m c) (aW2 m c) i n l
  | 0, hs, h => by
    refine (ptA m c ⟨8 * q + 0, h⟩ (by show (8 * q + 0) % 8 = 0; omega) r n).trans ?_
    rw [part_point m c ⟨8 * q + 0, h⟩ r i (by show i.val = (8 * q + 0) / 8 * 512 + r.val; omega) n]
    refine Finset.sum_congr rfl fun k _ => congrArg _ ?_
    show (8 * q + 0) % 8 * 1024 + k = k
    omega
  | s + 1, hs, h => by
    refine (ptB m c ⟨8 * q + (s + 1), h⟩ (by show 1 ≤ (8 * q + (s + 1)) % 8 ∧ (8 * q + (s + 1)) % 8 ≤ 6; omega) r n).trans ?_
    rw [part_point m c ⟨8 * q + (s + 1), h⟩ r i (by show i.val = (8 * q + (s + 1)) / 8 * 512 + r.val; omega) n]
    rw [show (s + 1 + 1) * 1024 = (s + 1) * 1024 + 1024 by omega, Finset.sum_range_add]
    refine congrArg₂ (· + ·) (acc c i r n q hq s (by omega) (by omega)) (Finset.sum_congr rfl fun k _ => congrArg _ ?_)
    show (8 * q + (s + 1)) % 8 * 1024 + k = (s + 1) * 1024 + k
    omega

/-- The residual stream after the feed-forward, at a token and a column. -/
abbrev RES (x : FVec Ideal S16384x2048 .f32) (h : FVec Ideal S16384x2048 .bf16) (w : FVec Ideal S1x2048x8192 .f32)
    (u : FVec Ideal S1x8192x2048 .f32) (i : Fin 16384) (n : Fin 2048) : EReal :=
  x (ix2 i n) + ∑ l : Fin 8192, ACT h w i l * u (ix3 0 l n)

/-- The result: the rows of the residual stream after the feed-forward, normalised. -/
abbrev OUT (x : FVec Ideal S16384x2048 .f32) (h : FVec Ideal S16384x2048 .bf16) (w : FVec Ideal S1x2048x8192 .f32)
    (u : FVec Ideal S1x8192x2048 .f32) (g : FVec Ideal S2048 .f32) : FVec Ideal S16384x2048 .f32 := fun i =>
  NORM (RES x h w u (i 0)) (fun n => g (ix1 n)) (i 1)

/-- The whole sum of the terms is the second product. -/
theorem sum_term (h : FVec Ideal S16384x2048 .bf16) (w : FVec Ideal S1x2048x8192 .f32) (u : FVec Ideal S1x8192x2048 .f32)
    (i : Fin 16384) (n : Fin 2048) :
    ∑ l ∈ Finset.range 8192, TERM h w u i n l = ∑ l : Fin 8192, ACT h w i l * u (ix3 0 l n) := by
  rw [Finset.sum_range]
  exact Finset.sum_congr rfl fun l _ => dif_pos l.isLt

/-- What a last point stores, at a place of the result. -/
theorem out_point (c : Dev nD) (t : Fin cfg0.N) (e : t.val % 8 = 7) (y : S512x2048.Idx) (j : S16384x2048.Idx)
    (h0 : (j 0).val = t.val / 8 * 512 + (y 0).val) (h1 : (j 1).val = (y 1).val) :
    (outsAt0 m c t.val t.isLt).1 y = OUT (aX m c) (aH m c) (aW1 m c) (aW2 m c) (aG m c) j := by
  refine (ptC m c t e y).trans ?_
  have e1 : ∀ n, (outsAt0 m c (t.val - 1) (Nat.lt_of_le_of_lt (Nat.sub_le _ _) t.isLt)).2 (ix2 (y 0) n)
      = ∑ l ∈ Finset.range 7168, TERM (aH m c) (aW1 m c) (aW2 m c) (j 0) n l := fun n => by
    have a := acc m c (j 0) (y 0) n (t.val / 8) h0 6 (le_refl _) (by have := t.isLt; omega)
    simp only [show 8 * (t.val / 8) + 6 = t.val - 1 by omega] at a
    exact a
  have e2 : ROW (iblk m c 0 t)
        (outsAt0 m c (t.val - 1) (Nat.lt_of_le_of_lt (Nat.sub_le _ _) t.isLt)).2 (iblk m c 1 t) (iblk m c 3 t) (iblk m c 4 t) (y 0)
      = RES (aX m c) (aH m c) (aW1 m c) (aW2 m c) (j 0) := funext fun n => by
    refine congrArg₂ (· + ·) (b0 m c t (y 0) (j 0) h0 n) ?_
    refine Eq.trans ?_ (sum_term (aH m c) (aW1 m c) (aW2 m c) (j 0) n)
    rw [e1, part_point m c t (y 0) (j 0) h0 n, e]
    exact (Finset.sum_range_add _ 7168 1024).symm
  have e3 : GAIN (iblk m c 2 t) = fun n => aG m c (ix1 n) := funext fun n => b2 m c t n
  rw [e2, e3]
  exact congrArg (NORM _ _) (Fin.ext h1.symm)

/-- Where an element of the result's block lies. -/
theorem emb5 (t : Fin cfg0.N) (y : S512x2048.Idx) :
    ((((cfg0.win 5).blk t).view.emb y) 0).val = t.val / 8 * 512 + (y 0).val
    ∧ ((((cfg0.win 5).blk t).view.emb y) 1).val = (y 1).val := by
  refine ⟨?_, ?_⟩ <;> blk_simp [idx t] <;> rfl

/-- The result array after the run. -/
theorem final (c : Dev nD) : (dats m 0 c).arrAt 5 cfg0.N = OUT (aX m c) (aH m c) (aW1 m c) (aW2 m c) (aG m c) := by
  refine (dats m 0 c).arrAt_eq_of_covers 5 _ (by decide +kernel) fun t hf y => ?_
  have e := emb5 t y
  blk_simp
  rw [after0_5]
  exact out_point m c t ((flush0_5 t).mp hf) y _ e.1 e.2

end Cert.Ffn.Hand
end
-- ==== Proof.FfnRef.lean ====
module

public import proofs.«01_k».proof.Proof.FfnValue
public import proofs.«01_k».proof.Proof.Gen.FfnRefIdeal.Run
public import proofs.«01_k».proof.Proof.Gen.FfnRefIdeal.Read
public import proofs.«01_k».proof.Defs
public import Idealize.ShloMosaic.Lib.Pipeline.ValueKit

/-! The feed-forward call against its reference. -/

@[expose] public section

set_option maxRecDepth 16384

noncomputable section

namespace Cert.Ffn.Hand

open Idealize.ShloMosaic Idealize.ShloMosaic.TcCoe Idealize.SL.Sem Cert.FfnRefIdeal Cert.FfnRefIdeal.Read
variable (x : FVec Ideal S16384x2048 .f32) (h : FVec Ideal S16384x2048 .bf16) (w : FVec Ideal S1x2048x8192 .f32)
    (u : FVec Ideal S1x8192x2048 .f32) (g : FVec Ideal S2048 .f32)

/-- The reference's result is the normalised residual stream after the feed-forward. -/
theorem ref : val_main_v20 (F := Ideal) x h w u g = OUT x h w u g := by
  funext i
  pointwise [val_main_v0, val_main_v1, val_main_v2, val_main_call0_cst, val_main_call0_v0, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, OUT, NORM, RES, ACT]

/-- The feed-forward call and its reference leave the same result. -/
theorem algebraic : Cert.algebraic_FfnIdeal_FfnRefIdeal (hFfnIdeal := Cert.FfnIdeal.Gen.facts)
    (hFfnRefIdeal := Cert.FfnRefIdeal.Gen.facts) := by
  intro m ρ m' ρ' _ hagree
  refine ⟨fun c => OUT (aX m c) (aH m c) (aW1 m c) (aW2 m c) (aG m c), ?_, ?_⟩
  · refine (θ_run _ _ _).mono (fun r h c => ?_) (Cert.FfnIdeal.Value.run_blocks m ρ)
    obtain ⟨h1, h2⟩ := h c
    exact ⟨h1.trans (final m c), h2⟩
  · refine (θ_run _ _ _).mono (fun r h c => ?_) (Cert.FfnRefIdeal.Value.run m' ρ')
    obtain ⟨h1, h2⟩ := h c
    obtain ⟨a0, a1, a2, a3, a4⟩ := hagree c
    refine ⟨?_, h2⟩
    rw [h1, val_main_v20_eq, ref, a0, a1, a2, a3, a4]

end Cert.Ffn.Hand
end
-- ==== Proof.GateBlocks.lean ====
module

public import proofs.«01_k».proof.Proof.Gen.GateIdeal.Value
public import Idealize.ShloMosaic.Lib.Pipeline.ValueKit
public import Idealize.ShloMosaic.Lib.Pipeline.ReadBack
public import Idealize.ShloMosaic.Lib.Claim
public import Idealize.ShloMosaic.Lib.WordCmp

/-! The gates' preparation: what its blocks hold, over the arguments. -/

@[expose] public section

set_option maxRecDepth 16384

noncomputable section

namespace Cert.Gate.Hand

open Idealize.ShloMosaic Idealize.ShloMosaic.TcCoe Idealize.SL.Sem Cert.GateIdeal Cert.GateIdeal.Gen
open Idealize.ShloMosaic.Pipeline (Dat)

variable (m : (ℓ : Loc nD τ sig) → Buf (Elt Ideal) ℓ)

/-- The block indices of the windows at a point. -/
theorem idx : ∀ t : Fin cfg0.N, win0_0.index t = ![t.val / 2, t.val % 2, 0] ∧ win0_1.index t = ![0, 0] ∧ win0_2.index t = ![0, 0]
    ∧ win0_3.index t = ![t.val / 2, t.val % 2, 0] ∧ win0_4.index t = ![t.val / 2, 0, t.val % 2] := (by decide +kernel : ∀ t : Fin grid0.N, _)

/-- The narrow projection. -/
abbrev aS (c : Dev nD) : FVec Ideal S16384x128 .f32 := m ((c : Thread nD τ).loc main_arg0)
/-- The bias of the input gates. -/
abbrev aI (c : Dev nD) : FVec Ideal S1x2x4 .f32 := m ((c : Thread nD τ).loc main_arg1)
/-- The bias of the forget gates. -/
abbrev aF (c : Dev nD) : FVec Ideal S1x2x4 .f32 := m ((c : Thread nD τ).loc main_arg2)
/-- The logarithms of the decays. -/
abbrev aA (c : Dev nD) : FVec Ideal S1x2x8 .f32 := m ((c : Thread nD τ).loc main_arg3)
/-- The bias of the decays. -/
abbrev aD (c : Dev nD) : FVec Ideal S1x2x8 .f32 := m ((c : Thread nD τ).loc main_arg4)

/-- Column not after row. -/
def LOW : IVec S256x256 1 := cmpi .sle (iotaInDim S256x256 32 1) (iotaInDim S256x256 32 0)
/-- Column not before row. -/
def UPP : IVec S256x256 1 := cmpi .sge (iotaInDim S256x256 32 1) (iotaInDim S256x256 32 0)
/-- Column and row in one stretch of 64. -/
def SD : IVec S256x256 1 := cmpi .eq (Host.divsi (iotaInDim S256x256 32 0) (broadcastInDim S256x256 ![] bcast_S_S256x256 (constantI S_ 32 64#32)))
  (Host.divsi (iotaInDim S256x256 32 1) (broadcastInDim S256x256 ![] bcast_S_S256x256 (constantI S_ 32 64#32)))
/-- Column and row in one stretch of 256. -/
def SM : IVec S256x256 1 := cmpi .eq (Host.divsi (iotaInDim S256x256 32 0) (broadcastInDim S256x256 ![] bcast_S_S256x256 (constantI S_ 32 256#32)))
  (Host.divsi (iotaInDim S256x256 32 1) (broadcastInDim S256x256 ![] bcast_S_S256x256 (constantI S_ 32 256#32)))
/-- The matrix of the sums. -/
def MATS : FVec Ideal S1280x256 .bf16 := uitofp .bf16 (concatenate S1280x256 0 [⟨S256x256, andi LOW SM⟩, ⟨S256x256, andi UPP SM⟩,
  ⟨S256x256, andi LOW SD⟩, ⟨S256x256, andi UPP SD⟩, ⟨S256x256, SD⟩] concatenates_S256x256_S256x256_S256x256_S256x256_S256x256_S1280x256_d0)
/-- The first comparison the program makes. -/
theorem v20 (c : Dev nD) : (V m c main_v20 : IVec S256x256 1) = LOW := rfl
/-- The second. -/
theorem v21 (c : Dev nD) : (V m c main_v21 : IVec S256x256 1) = UPP := rfl
/-- The third. -/
theorem v26 (c : Dev nD) : (V m c main_v26 : IVec S256x256 1) = SD := rfl
/-- The fourth. -/
theorem v31 (c : Dev nD) : (V m c main_v31 : IVec S256x256 1) = SM := rfl
/-- The first of the five squares. -/
theorem v32 (c : Dev nD) : (V m c main_v32 : IVec S256x256 1) = andi LOW SM := by
  rw [← v20 m c, ← v31 m c]; rfl
/-- The second. -/
theorem v33 (c : Dev nD) : (V m c main_v33 : IVec S256x256 1) = andi UPP SM := by
  rw [← v21 m c, ← v31 m c]; rfl
/-- The third. -/
theorem v34 (c : Dev nD) : (V m c main_v34 : IVec S256x256 1) = andi LOW SD := by
  rw [← v20 m c, ← v26 m c]; rfl
/-- The fourth. -/
theorem v35 (c : Dev nD) : (V m c main_v35 : IVec S256x256 1) = andi UPP SD := by
  rw [← v21 m c, ← v26 m c]; rfl
/-- The five squares, one below the other. -/
def CAT (a b c d e : IVec S256x256 1) : IVec S1280x256 1 := concatenate S1280x256 0 [⟨S256x256, a⟩, ⟨S256x256, b⟩,
  ⟨S256x256, c⟩, ⟨S256x256, d⟩, ⟨S256x256, e⟩] concatenates_S256x256_S256x256_S256x256_S256x256_S256x256_S1280x256_d0
set_option maxHeartbeats 4000000 in
/-- The squares together. -/
theorem v36 (c : Dev nD) : (V m c main_v36 : IVec S1280x256 1)
    = CAT (V m c main_v32) (V m c main_v33) (V m c main_v34) (V m c main_v35) (V m c main_v26) := rfl
/-- The matrix from its bits. -/
theorem v37 (c : Dev nD) : (V m c main_v37 : FVec Ideal S1280x256 .bf16) = uitofp (F := Ideal) .bf16 (V m c main_v36 : IVec S1280x256 1) := rfl
/-- The matrix the program builds. -/
theorem mats_eq (c : Dev nD) : (V m c main_v37 : FVec Ideal S1280x256 .bf16) = MATS := by
  rw [v37, v36, v32, v33, v34, v35, v26]; rfl

/-- The biases of the lanes. -/
def BIASV (a1 a2 : FVec Ideal S1x2x4 .f32) (a4 : FVec Ideal S1x2x8 .f32) : FVec Ideal S128 .f32 :=
  concatenate S128 0 [⟨S8, shapeCast S8 (shapeCast S2x4 a1 shapeCasts_S1x2x4_S2x4) shapeCasts_S2x4_S8⟩,
    ⟨S8, shapeCast S8 (shapeCast S2x4 a2 shapeCasts_S1x2x4_S2x4) shapeCasts_S2x4_S8⟩,
    ⟨S16, shapeCast S16 (shapeCast S2x8 a4 shapeCasts_S1x2x8_S2x8) shapeCasts_S2x8_S16⟩,
    ⟨S96, broadcastInDim S96 ![] bcast_S_S96 (constant S_ .f32 0x00000000#32)⟩] concatenates_S8_S8_S16_S96_S128_d0
/-- The decay parameters of the lanes. -/
def DECV (a3 : FVec Ideal S1x2x8 .f32) : FVec Ideal S128 .f32 :=
  concatenate S128 0 [⟨S16, broadcastInDim S16 ![] bcast_S_S16 (constant S_ .f32 0x00000000#32)⟩,
    ⟨S16, shapeCast S16 (shapeCast S2x8 a3 shapeCasts_S1x2x8_S2x8) shapeCasts_S2x8_S16⟩,
    ⟨S96, broadcastInDim S96 ![] bcast_S_S96 (constant S_ .f32 0x00000000#32)⟩] concatenates_S16_S16_S96_S128_d0
/-- The parameters' rows. -/
def PARS (a1 a2 : FVec Ideal S1x2x4 .f32) (a3 a4 : FVec Ideal S1x2x8 .f32) : FVec Ideal S8x128 .f32 :=
  concatenate S8x128 0 [⟨S1x128, broadcastInDim S1x128 ![1] bcast_S128_S1x128_1 (BIASV a1 a2 a4)⟩,
    ⟨S1x128, broadcastInDim S1x128 ![1] bcast_S128_S1x128_1 (DECV a3)⟩,
    ⟨S6x128, broadcastInDim S6x128 ![] bcast_S_S6x128 (constant S_ .f32 0x00000000#32)⟩] concatenates_S1x128_S1x128_S6x128_S8x128_d0
/-- The parameters the program builds. -/
theorem pars_eq (c : Dev nD) : (V m c main_v16 : FVec Ideal S8x128 .f32) = PARS (aI m c) (aF m c) (aA m c) (aD m c) := rfl

/-- The order of small words, not strict. -/
theorem sle_small (a b : Nat) (ha : a < 256) (hb : b < 256) :
    IntOp.cmpi .sle (BitVec.ofNat 32 a) (BitVec.ofNat 32 b) = if a ≤ b then 1#1 else 0#1 := by
  have e : ∀ n : Nat, n < 256 → (BitVec.ofNat 32 n).toInt = n := fun n hn => by
    have : (BitVec.ofNat 32 n).toNat = n := by rw [BitVec.toNat_ofNat]; exact Nat.mod_eq_of_lt (by omega)
    rw [BitVec.toInt_eq_toNat_of_lt (by omega), this]
  simp only [IntOp.cmpi, BitVec.sle_eq_decide, e a ha, e b hb, Int.ofNat_le]
  by_cases h : a ≤ b <;> simp [h]

/-- The same order, reversed. -/
theorem sge_small (a b : Nat) (ha : a < 256) (hb : b < 256) :
    IntOp.cmpi .sge (BitVec.ofNat 32 a) (BitVec.ofNat 32 b) = if b ≤ a then 1#1 else 0#1 := by
  rw [← sle_small b a hb ha]; rfl

/-- The quotient of a small word by 64. -/
theorem div64 : ∀ i : Fin 256, IntOp.divsi ArithUnit.host (BitVec.ofNat 32 i.val) 64#32 = BitVec.ofNat 32 (i.val / 64) := by
  decide +kernel

/-- The quotient of a small word by 256. -/
theorem div256 : ∀ i : Fin 256, IntOp.divsi ArithUnit.host (BitVec.ofNat 32 i.val) 256#32 = BitVec.ofNat 32 0 := by
  decide +kernel

/-- Whether two small words are one. -/
theorem eq_small : ∀ a b : Fin 4, IntOp.cmpi .eq (BitVec.ofNat 32 a.val) (BitVec.ofNat 32 b.val) = if a.val = b.val then 1#1 else 0#1 := by
  decide +kernel

/-- An entry of the first comparison. -/
theorem low_apply (i k : Fin 256) : LOW (ix2 i k) = if k.val ≤ i.val then 1#1 else 0#1 := by
  pointwise [LOW]
  exact sle_small _ _ k.isLt i.isLt

/-- An entry of the second comparison. -/
theorem upp_apply (i k : Fin 256) : UPP (ix2 i k) = if i.val ≤ k.val then 1#1 else 0#1 := by
  pointwise [UPP]
  exact sge_small _ _ k.isLt i.isLt

/-- An entry of the third comparison. -/
theorem sd_apply (i k : Fin 256) : SD (ix2 i k) = if i.val / 64 = k.val / 64 then 1#1 else 0#1 := by
  pointwise [SD]
  rw [div64 i, div64 k]
  exact eq_small ⟨i.val / 64, by omega⟩ ⟨k.val / 64, by omega⟩

/-- An entry of the fourth comparison. -/
theorem sm_apply (i k : Fin 256) : SM (ix2 i k) = 1#1 := by
  pointwise [SM]
  rw [div256 i, div256 k]
  exact eq_small 0 0

/-- A bit as a number. -/
theorem bit_num (p : Prop) [Decidable p] : (FloatOps.uitofp (F := Ideal) FTy.bf16 (if p then 1#1 else 0#1) : EReal) = if p then 1 else 0 := by
  by_cases h : p
  · simp only [if_pos h]
    simp [FloatOps.uitofp]
  · simp only [if_neg h]
    simp [FloatOps.uitofp]

/-- Two bits' conjunction. -/
theorem bit_and (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A bit's conjunction with one. -/
theorem bit_and_one (p : Prop) [Decidable p] : IntOp.andi (if p then 1#1 else 0#1) 1#1 = if p then 1#1 else 0#1 := by
  by_cases hp : p <;> simp [hp, IntOp.andi]

/-- The first square of the matrix. -/
theorem mat0 (i k : Fin 256) : (MATS (ix2 ⟨i.val, by omega⟩ k) : EReal) = if k.val ≤ i.val then 1 else 0 := by
  pointwise [MATS]
  simp only [low_apply, upp_apply, sd_apply, sm_apply, bit_and, bit_and_one, bit_num]

/-- The second square of the matrix. -/
theorem mat1 (i k : Fin 256) : (MATS (ix2 ⟨256 + i.val, by omega⟩ k) : EReal) = if i.val ≤ k.val then 1 else 0 := by
  pointwise [MATS]
  simp only [low_apply, upp_apply, sd_apply, sm_apply, bit_and, bit_and_one, bit_num]

/-- The third square of the matrix. -/
theorem mat2 (i k : Fin 256) : (MATS (ix2 ⟨512 + i.val, by omega⟩ k) : EReal) = if k.val ≤ i.val ∧ i.val / 64 = k.val / 64 then 1 else 0 := by
  pointwise [MATS]
  rw [dif_neg (by omega)]
  rw [dif_neg (by omega)]
  rw [dif_pos (by omega)]
  simp only [show 512 + i.val - 256 - 256 = i.val by omega]
  simp only [low_apply, upp_apply, sd_apply, sm_apply, bit_and, bit_and_one, bit_num]

/-- The fourth square of the matrix. -/
theorem mat3 (i k : Fin 256) : (MATS (ix2 ⟨768 + i.val, by omega⟩ k) : EReal) = if i.val ≤ k.val ∧ i.val / 64 = k.val / 64 then 1 else 0 := by
  pointwise [MATS]
  rw [dif_neg (by omega)]
  rw [dif_neg (by omega)]
  rw [dif_neg (by omega)]
  rw [dif_pos (by omega)]
  simp only [show 768 + i.val - 256 - 256 - 256 = i.val by omega]
  simp only [low_apply, upp_apply, sd_apply, sm_apply, bit_and, bit_and_one, bit_num]

/-- The last square of the matrix. -/
theorem mat4 (i k : Fin 256) : (MATS (ix2 ⟨1024 + i.val, by omega⟩ k) : EReal) = if i.val / 64 = k.val / 64 then 1 else 0 := by
  pointwise [MATS]
  rw [dif_neg (by omega)]
  rw [dif_neg (by omega)]
  rw [dif_neg (by omega)]
  rw [dif_neg (by omega)]
  simp only [show 1024 + i.val - 256 - 256 - 256 - 256 = i.val by omega]
  simp only [low_apply, upp_apply, sd_apply, sm_apply, bit_and, bit_and_one, bit_num]

/-- A lane's bias. -/
abbrev BI (a1 a2 : FVec Ideal S1x2x4 .f32) (a4 : FVec Ideal S1x2x8 .f32) (l : Fin 128) : EReal :=
  if h : l.val < 8 then a1 (ix3 0 ⟨l.val / 4, by omega⟩ ⟨l.val % 4, by omega⟩)
  else if h : l.val < 16 then a2 (ix3 0 ⟨(l.val - 8) / 4, by omega⟩ ⟨(l.val - 8) % 4, by omega⟩)
  else if h : l.val < 32 then a4 (ix3 0 ⟨(l.val - 16) / 8, by omega⟩ ⟨(l.val - 16) % 8, by omega⟩) else 0

/-- A lane's decay parameter. -/
abbrev DE (a3 : FVec Ideal S1x2x8 .f32) (l : Fin 128) : EReal :=
  if h : 16 ≤ l.val ∧ l.val < 32 then a3 (ix3 0 ⟨(l.val - 16) / 8, by omega⟩ ⟨(l.val - 16) % 8, by omega⟩) else 0

/-- The first row of the parameters. -/
theorem par0 (a1 a2 : FVec Ideal S1x2x4 .f32) (a3 a4 : FVec Ideal S1x2x8 .f32) (l : Fin 128) :
    PARS a1 a2 a3 a4 (ix2 0 l) = BI a1 a2 a4 l := by
  trans BIASV a1 a2 a4 (ix1 l)
  · pointwise [PARS]
  · pointwise [BIASV]
    by_cases h1 : l.val < 8
    · rw [dif_pos h1, BI, dif_pos h1]
    · rw [dif_neg h1, BI, dif_neg h1]
      by_cases h2 : l.val < 16
      · rw [dif_pos (by omega), dif_pos h2]
      · rw [dif_neg (by omega), dif_neg h2]
        by_cases h3 : l.val < 32
        · rw [dif_pos (by omega), dif_pos h3]
          simp only [Nat.sub_sub]
        · rw [dif_neg (by omega), dif_neg h3]

/-- The second row of the parameters. -/
theorem par1 (a1 a2 : FVec Ideal S1x2x4 .f32) (a3 a4 : FVec Ideal S1x2x8 .f32) (l : Fin 128) :
    PARS a1 a2 a3 a4 (ix2 1 l) = DE a3 l := by
  trans DECV a3 (ix1 l)
  · pointwise [PARS]
  · pointwise [DECV]
    by_cases h1 : l.val < 16
    · rw [dif_pos h1, DE, dif_neg (by omega)]
    · rw [dif_neg h1]
      by_cases h2 : l.val < 32
      · rw [dif_pos (by omega), DE, dif_pos (by omega)]
      · rw [dif_neg (by omega), DE, dif_neg (by omega)]

/-- The block of the narrow projection at an element. -/
theorem b0 (c : Dev nD) (t : Fin cfg0.N) (r : Fin 1024) (l : Fin 128) (i : Fin 16384) (hi : i.val = t.val * 1024 + r.val) :
    (iblk m c 0 t (ix3 0 r l) : EReal) = aS m c (ix2 i l) := by
  have ht : t.val < 16 := t.isLt
  trans V m c main_v17 (ix3 ⟨t.val / 2, by show t.val / 2 < 8; omega⟩ ⟨t.val % 2 * 1024 + r.val, by show _ < 2048; omega⟩ l)
  · blk_ext [iblk, idx t]
  · entry_read
    pointwise
    exact congrArg (fun z => aS m c (ix2 z l)) (Fin.ext (by show t.val / 2 * 2048 + (t.val % 2 * 1024 + r.val) = i.val; omega))

/-- The block of the parameters. -/
theorem b1 (c : Dev nD) (t : Fin cfg0.N) (r : Fin 8) (l : Fin 128) :
    (iblk m c 1 t (ix2 r l) : EReal) = PARS (aI m c) (aF m c) (aA m c) (aD m c) (ix2 r l) := by
  rw [← pars_eq]
  blk_ext [iblk, idx t]

/-- The block of the matrix. -/
theorem b2 (c : Dev nD) (t : Fin cfg0.N) : (iblk m c 2 t : FVec Ideal S1280x256 .bf16) = MATS := by
  rw [← mats_eq m c]
  funext y
  obtain ⟨r, l, rfl⟩ : ∃ (r : Fin 1280) (l : Fin 256), y = ix2 r l := ⟨y 0, y 1, eq_ix2 y⟩
  blk_ext [iblk, idx t]

end Cert.Gate.Hand
-- ==== Proof.GateBody.lean ====
module

public import proofs.«01_k».proof.Proof.Gen.GateIdeal.Value
public import Idealize.ShloMosaic.Lib.Pipeline.ValueKit
public import Idealize.ShloMosaic.Lib.Pipeline.ReadBack
public import Idealize.ShloMosaic.Lib.Claim
public import Idealize.ShloMosaic.Lib.WordCmp

/-! The gates' preparation: what it leaves in its two results, as sums over the arguments. -/

@[expose] public section

set_option maxRecDepth 16384

noncomputable section

namespace Cert.Gate.Hand

open Idealize.ShloMosaic Idealize.ShloMosaic.TcCoe Idealize.SL.Sem Cert.GateIdeal Cert.GateIdeal.Gen
open Idealize.ShloMosaic.Pipeline (Dat)

/-- The order of two small words is that of their numbers. -/
theorem slt_small (a b : Nat) (ha : a < 2048) (hb : b < 2048) :
    (BitVec.ofNat 32 a).slt (BitVec.ofNat 32 b) = decide (a < b) := by
  have e : ∀ n : Nat, n < 2048 → (BitVec.ofNat 32 n).toInt = n := fun n hn => by
    have : (BitVec.ofNat 32 n).toNat = n := by rw [BitVec.toNat_ofNat]; exact Nat.mod_eq_of_lt (by omega)
    rw [BitVec.toInt_eq_toNat_of_lt (by omega), this]
  rw [BitVec.slt_eq_decide, e a ha, e b hb]
  exact decide_eq_decide.mpr Int.ofNat_lt

/-- A choice on a lane's number. -/
theorem sel_lt (l : Fin 128) (k : Nat) (hk : k < 128) (a b : EReal) :
    Scalar.select (IntOp.cmpi .slt (BitVec.ofNat 32 l.val) (BitVec.ofNat 32 k)) a b = if l.val < k then a else b := by
  obtain ⟨l, hl⟩ := l
  simp only [Scalar.select, IntOp.cmpi, slt_small l k (by omega) (by omega)]
  by_cases h : l < k <;> simp [h]

/-- The logarithm of one plus an exponential, in the stable form. -/
abbrev SP (x : EReal) : EReal :=
  max x 0 + Ideal.log1p (Ideal.exp (0 - FloatOps.absf (F := Ideal) (φ := .f32) x))

/-- A lane's gate, from its value with the bias added and the lane's decay parameter. -/
abbrev GE (x a : EReal) (l : Fin 128) : EReal :=
  if l.val < 8 then x else if l.val < 16 then 0 - SP (0 - x) else if l.val < 32 then (0 - Ideal.exp a) * SP x
  else if l.val < 48 then Ideal.div 1 (1 + Ideal.exp (0 - x)) else 0

/-- A row of the matrix times a column, its two remainders added. -/
abbrev YS (mat : FVec Ideal S1280x256 .bf16) (E : Fin 256 → EReal) (i : Fin 1280) : EReal :=
  (∑ x : Fin 256, mat (ix2 i x) * E x) + (∑ x : Fin 256, mat (ix2 i x) * (E x - E x))
    + ∑ x : Fin 256, mat (ix2 i x) * ((E x - E x) - (E x - E x))

/-- What is stored at a row and a lane, from the rows' gates and the products with the matrix. -/
abbrev KOUT (E : Fin 256 → Fin 128 → EReal) (Y : Fin 1280 → Fin 128 → EReal) (r : Fin 256) (l : Fin 128) : EReal :=
  if l.val < 8 then E r l else if l.val < 12 then Y ⟨r.val, by omega⟩ l else if l.val < 16 then Y ⟨256 + r.val, by omega⟩ l
  else if l.val < 24 then Y ⟨512 + r.val, by omega⟩ l else if l.val < 32 then Y ⟨768 + r.val, by omega⟩ l
  else if l.val < 48 then E r l
  else if l.val < 64 then Y ⟨1024 + r.val, by omega⟩ ⟨(l.val + 128 - 32) % 128, Nat.mod_lt _ (by decide)⟩ else 0

section Body
variable (x0 : FVec Ideal S1x1024x128 .f32) (x1 : FVec Ideal S8x128 .f32) (x2 : FVec Ideal S1280x256 .bf16)

/-- A block's gates. -/
abbrev EB (o : Nat) (ho : o ≤ 768) (s : Fin 256) (l : Fin 128) : EReal :=
  GE (x0 (ix3 0 ⟨o + s.val, by omega⟩ l) + x1 (ix2 0 l)) (x1 (ix2 1 l)) l

/-- The gates of block 0. -/
theorem e0 (s : Fin 256) (l : Fin 128) : k0_pay98 (F := Ideal) x0 x1 x2 (ix2 s l) = EB x0 x1 0 (by decide) s l := by
  pointwise [k0_pay98, k0_pay97, k0_pay96, k0_pay95, k0_pay94, k0_pay9, k0_pay8, k0_pay7, k0_pay6, k0_pay5, k0_pay93, k0_pay92, k0_pay4]
  simp only [sel_lt l 8 (by decide), sel_lt l 16 (by decide), sel_lt l 32 (by decide), sel_lt l 48 (by decide), EB, Nat.zero_add]

/-- The gates of block 1. -/
theorem e1 (s : Fin 256) (l : Fin 128) : k0_pay104 (F := Ideal) x0 x1 x2 (ix2 s l) = EB x0 x1 256 (by decide) s l := by
  pointwise [k0_pay104, k0_pay103, k0_pay102, k0_pay101, k0_pay100, k0_pay15, k0_pay14, k0_pay13, k0_pay12, k0_pay11, k0_pay93, k0_pay92, k0_pay4]
  simp only [sel_lt l 8 (by decide), sel_lt l 16 (by decide), sel_lt l 32 (by decide), sel_lt l 48 (by decide), EB, Nat.zero_add]

/-- The gates of block 2. -/
theorem e2 (s : Fin 256) (l : Fin 128) : k0_pay108 (F := Ideal) x0 x1 x2 (ix2 s l) = EB x0 x1 512 (by decide) s l := by
  pointwise [k0_pay108, k0_pay107, k0_pay106, k0_pay105, k0_pay21, k0_pay20, k0_pay19, k0_pay18, k0_pay17, k0_pay93, k0_pay92, k0_pay4]
  simp only [sel_lt l 8 (by decide), sel_lt l 16 (by decide), sel_lt l 32 (by decide), sel_lt l 48 (by decide), EB, Nat.zero_add]

/-- The gates of block 3. -/
theorem e3 (s : Fin 256) (l : Fin 128) : k0_pay116 (F := Ideal) x0 x1 x2 (ix2 s l) = EB x0 x1 768 (by decide) s l := by
  pointwise [k0_pay116, k0_pay115, k0_pay114, k0_pay113, k0_pay112, k0_pay111, k0_pay110, k0_pay109, k0_pay30, k0_pay29, k0_pay28, k0_pay27, k0_pay26, k0_pay25, k0_pay24, k0_pay23, k0_pay93, k0_pay92, k0_pay4]
  simp only [sel_lt l 8 (by decide), sel_lt l 16 (by decide), sel_lt l 32 (by decide), sel_lt l 48 (by decide), EB, Nat.zero_add]

/-- The products of block 0 with the matrix. -/
theorem y0 (i : Fin 1280) (l : Fin 128) : (k0_pay34 (k0_pay99 x0 x1 x2) (View.ld x2 r0_6) : FVec Ideal S1280x128 .f32) (ix2 i l) = YS x2 (fun s => k0_pay98 (F := Ideal) x0 x1 x2 (ix2 s l)) i := by
  unfold k0_pay98 k0_pay99
  generalize k0_pay97 (F := Ideal) x0 x1 x2 = a0
  generalize k0_pay96 (F := Ideal) x0 x1 x2 = a1
  generalize k0_pay95 (F := Ideal) x0 x1 x2 = a2
  generalize k0_pay94 (F := Ideal) x0 x1 x2 = a3
  generalize k0_pay92 (F := Ideal) x0 x1 x2 = a4
  pointwise [k0_pay34, k0_pay10]
  refine congrArg₂ (fun a b : EReal => a + b) rfl (Finset.sum_congr rfl fun x _ => congrArg (fun z : EReal => x2 (ix2 i x) * z) ?_)
  rw [dif_neg (by omega), dif_neg (by omega)]
  simp only [show 256 + l.val - 128 - 128 = l.val by omega]

/-- The products of block 1 with the matrix. -/
theorem y1 (i : Fin 1280) (l : Fin 128) : (k0_pay48 (k0_pay117 x0 x1 x2) : FVec Ideal S1280x128 .f32) (ix2 i l) = YS x2 (fun s => k0_pay104 (F := Ideal) x0 x1 x2 (ix2 s l)) i := by
  unfold k0_pay104 k0_pay117
  generalize k0_pay103 (F := Ideal) x0 x1 x2 = a0
  generalize k0_pay102 (F := Ideal) x0 x1 x2 = a1
  generalize k0_pay101 (F := Ideal) x0 x1 x2 = a2
  generalize k0_pay100 (F := Ideal) x0 x1 x2 = a3
  generalize k0_pay93 (F := Ideal) x0 x1 x2 = a4
  generalize k0_pay92 (F := Ideal) x0 x1 x2 = a5
  pointwise [k0_pay48, k0_pay31, k0_pay16]
  refine congrArg₂ (fun a b : EReal => a + b) rfl (Finset.sum_congr rfl fun x _ => congrArg (fun z : EReal => x2 (ix2 i x) * z) ?_)
  rw [dif_neg (by omega), dif_neg (by omega)]
  simp only [show 256 + l.val - 128 - 128 = l.val by omega]

/-- The products of block 2 with the matrix. -/
theorem y2 (i : Fin 1280) (l : Fin 128) : (k0_pay63 (k0_pay118 x0 x1 x2) : FVec Ideal S1280x128 .f32) (ix2 i l) = YS x2 (fun s => k0_pay108 (F := Ideal) x0 x1 x2 (ix2 s l)) i := by
  unfold k0_pay108 k0_pay118
  generalize k0_pay107 (F := Ideal) x0 x1 x2 = a0
  generalize k0_pay106 (F := Ideal) x0 x1 x2 = a1
  generalize k0_pay105 (F := Ideal) x0 x1 x2 = a2
  generalize k0_pay93 (F := Ideal) x0 x1 x2 = a3
  generalize k0_pay92 (F := Ideal) x0 x1 x2 = a4
  pointwise [k0_pay63, k0_pay32, k0_pay22]
  refine congrArg₂ (fun a b : EReal => a + b) rfl (Finset.sum_congr rfl fun x _ => congrArg (fun z : EReal => x2 (ix2 i x) * z) ?_)
  rw [dif_neg (by omega), dif_neg (by omega)]
  simp only [show 256 + l.val - 128 - 128 = l.val by omega]

/-- The products of block 3 with the matrix. -/
theorem y3 (i : Fin 1280) (l : Fin 128) : (k0_pay79 (k0_pay119 x0 x1 x2) : FVec Ideal S1280x128 .f32) (ix2 i l) = YS x2 (fun s => k0_pay116 (F := Ideal) x0 x1 x2 (ix2 s l)) i := by
  unfold k0_pay116 k0_pay119
  generalize k0_pay115 (F := Ideal) x0 x1 x2 = a0
  generalize k0_pay114 (F := Ideal) x0 x1 x2 = a1
  generalize k0_pay113 (F := Ideal) x0 x1 x2 = a2
  generalize k0_pay112 (F := Ideal) x0 x1 x2 = a3
  generalize k0_pay111 (F := Ideal) x0 x1 x2 = a4
  generalize k0_pay110 (F := Ideal) x0 x1 x2 = a5
  generalize k0_pay109 (F := Ideal) x0 x1 x2 = a6
  pointwise [k0_pay79, k0_pay33]
  refine congrArg₂ (fun a b : EReal => a + b) rfl (Finset.sum_congr rfl fun x _ => congrArg (fun z : EReal => x2 (ix2 i x) * z) ?_)
  rw [dif_neg (by omega), dif_neg (by omega)]
  simp only [show 256 + l.val - 128 - 128 = l.val by omega]

/-- What block 0 stores. -/
theorem o0 (r : Fin 256) (l : Fin 128) : (k0_pay45 (k0_pay92 (F := Ideal) x0 x1 x2) (k0_pay98 (F := Ideal) x0 x1 x2) (k0_pay120 (F := Ideal) x0 x1 x2) (k0_pay121 (F := Ideal) x0 x1 x2) (k0_pay122 (F := Ideal) x0 x1 x2) (k0_pay123 (F := Ideal) x0 x1 x2) (k0_pay124 (F := Ideal) x0 x1 x2) (k0_pay125 (F := Ideal) x0 x1 x2) (k0_pay126 (F := Ideal) x0 x1 x2) (k0_pay127 (F := Ideal) x0 x1 x2) (k0_pay128 (F := Ideal) x0 x1 x2) (k0_pay129 (F := Ideal) x0 x1 x2) : FVec Ideal S256x128 .f32) (ix2 r l)
    = KOUT (EB x0 x1 0 (by decide)) (fun i l => YS x2 (fun s => EB x0 x1 0 (by decide) s l) i) r l := by
  rw [show EB x0 x1 0 (by decide) = (fun s l => k0_pay98 (F := Ideal) x0 x1 x2 (ix2 s l)) from funext fun s => funext fun l => (e0 x0 x1 x2 s l).symm]
  simp only [← y0 x0 x1 x2]
  unfold k0_pay120 k0_pay121 k0_pay122 k0_pay123 k0_pay124 k0_pay125 k0_pay126 k0_pay127 k0_pay128 k0_pay129 k0_pay35 k0_pay36 k0_pay37 k0_pay38 k0_pay39 k0_pay40 k0_pay41 k0_pay42 k0_pay43 k0_pay44
  generalize k0_pay98 (F := Ideal) x0 x1 x2 = a
  generalize ((k0_pay34 (F := Ideal) (k0_pay99 (F := Ideal) x0 x1 x2) (View.ld x2 r0_6)) : FVec Ideal S1280x128 .f32) = b
  pointwise [k0_pay45, k0_pay92]
  simp only [sel_lt l 8 (by decide), sel_lt l 12 (by decide), sel_lt l 16 (by decide), sel_lt l 24 (by decide),
    sel_lt l 32 (by decide), sel_lt l 48 (by decide), sel_lt l 64 (by decide)]

/-- What block 1 stores. -/
theorem o1 (r : Fin 256) (l : Fin 128) : (k0_pay60 (k0_pay92 (F := Ideal) x0 x1 x2) (k0_pay104 (F := Ideal) x0 x1 x2) (k0_pay130 (F := Ideal) x0 x1 x2) (k0_pay131 (F := Ideal) x0 x1 x2) (k0_pay132 (F := Ideal) x0 x1 x2) (k0_pay133 (F := Ideal) x0 x1 x2) (k0_pay134 (F := Ideal) x0 x1 x2) (k0_pay135 (F := Ideal) x0 x1 x2) (k0_pay136 (F := Ideal) x0 x1 x2) (k0_pay137 (F := Ideal) x0 x1 x2) (k0_pay138 (F := Ideal) x0 x1 x2) (k0_pay139 (F := Ideal) x0 x1 x2) (k0_pay140 (F := Ideal) x0 x1 x2) : FVec Ideal S256x128 .f32) (ix2 r l)
    = KOUT (EB x0 x1 256 (by decide)) (fun i l => YS x2 (fun s => EB x0 x1 256 (by decide) s l) i) r l := by
  rw [show EB x0 x1 256 (by decide) = (fun s l => k0_pay104 (F := Ideal) x0 x1 x2 (ix2 s l)) from funext fun s => funext fun l => (e1 x0 x1 x2 s l).symm]
  simp only [← y1 x0 x1 x2]
  unfold k0_pay130 k0_pay131 k0_pay132 k0_pay133 k0_pay134 k0_pay135 k0_pay136 k0_pay137 k0_pay138 k0_pay139 k0_pay140 k0_pay49 k0_pay50 k0_pay51 k0_pay52 k0_pay53 k0_pay54 k0_pay55 k0_pay56 k0_pay57 k0_pay58 k0_pay59
  generalize k0_pay104 (F := Ideal) x0 x1 x2 = a
  generalize ((k0_pay48 (F := Ideal) (k0_pay117 (F := Ideal) x0 x1 x2)) : FVec Ideal S1280x128 .f32) = b
  pointwise [k0_pay60, k0_pay92]
  simp only [sel_lt l 8 (by decide), sel_lt l 12 (by decide), sel_lt l 16 (by decide), sel_lt l 24 (by decide),
    sel_lt l 32 (by decide), sel_lt l 48 (by decide), sel_lt l 64 (by decide)]

/-- What block 2 stores. -/
theorem o2 (r : Fin 256) (l : Fin 128) : (k0_pay76 (k0_pay108 (F := Ideal) x0 x1 x2) (k0_pay141 (F := Ideal) x0 x1 x2) (k0_pay142 (F := Ideal) x0 x1 x2) (k0_pay143 (F := Ideal) x0 x1 x2) (k0_pay144 (F := Ideal) x0 x1 x2) (k0_pay145 (F := Ideal) x0 x1 x2) (k0_pay146 (F := Ideal) x0 x1 x2) (k0_pay147 (F := Ideal) x0 x1 x2) (k0_pay148 (F := Ideal) x0 x1 x2) (k0_pay149 (F := Ideal) x0 x1 x2) (k0_pay150 (F := Ideal) x0 x1 x2) (k0_pay151 (F := Ideal) x0 x1 x2) (k0_pay152 (F := Ideal) x0 x1 x2) : FVec Ideal S256x128 .f32) (ix2 r l)
    = KOUT (EB x0 x1 512 (by decide)) (fun i l => YS x2 (fun s => EB x0 x1 512 (by decide) s l) i) r l := by
  rw [show EB x0 x1 512 (by decide) = (fun s l => k0_pay108 (F := Ideal) x0 x1 x2 (ix2 s l)) from funext fun s => funext fun l => (e2 x0 x1 x2 s l).symm]
  simp only [← y2 x0 x1 x2]
  unfold k0_pay141 k0_pay142 k0_pay143 k0_pay144 k0_pay145 k0_pay146 k0_pay147 k0_pay148 k0_pay149 k0_pay150 k0_pay151 k0_pay152 k0_pay64 k0_pay65 k0_pay66 k0_pay67 k0_pay68 k0_pay69 k0_pay70 k0_pay71 k0_pay72 k0_pay73 k0_pay74 k0_pay75
  generalize k0_pay108 (F := Ideal) x0 x1 x2 = a
  generalize ((k0_pay63 (F := Ideal) (k0_pay118 (F := Ideal) x0 x1 x2)) : FVec Ideal S1280x128 .f32) = b
  pointwise [k0_pay76, k0_pay92]
  simp only [sel_lt l 8 (by decide), sel_lt l 12 (by decide), sel_lt l 16 (by decide), sel_lt l 24 (by decide),
    sel_lt l 32 (by decide), sel_lt l 48 (by decide), sel_lt l 64 (by decide)]

/-- What block 3 stores. -/
theorem o3 (r : Fin 256) (l : Fin 128) : (k0_pay1 (k0_pay116 (F := Ideal) x0 x1 x2) (k0_pay153 (F := Ideal) x0 x1 x2) (k0_pay154 (F := Ideal) x0 x1 x2) (k0_pay155 (F := Ideal) x0 x1 x2) (k0_pay156 (F := Ideal) x0 x1 x2) (k0_pay157 (F := Ideal) x0 x1 x2) (k0_pay158 (F := Ideal) x0 x1 x2) (k0_pay159 (F := Ideal) x0 x1 x2) (k0_pay160 (F := Ideal) x0 x1 x2) (k0_pay161 (F := Ideal) x0 x1 x2) (k0_pay162 (F := Ideal) x0 x1 x2) (k0_pay163 (F := Ideal) x0 x1 x2) (k0_pay164 (F := Ideal) x0 x1 x2) (Scalar.ofBits .f32 0x00000000#32) : FVec Ideal S256x128 .f32) (ix2 r l)
    = KOUT (EB x0 x1 768 (by decide)) (fun i l => YS x2 (fun s => EB x0 x1 768 (by decide) s l) i) r l := by
  rw [show EB x0 x1 768 (by decide) = (fun s l => k0_pay116 (F := Ideal) x0 x1 x2 (ix2 s l)) from funext fun s => funext fun l => (e3 x0 x1 x2 s l).symm]
  simp only [← y3 x0 x1 x2]
  unfold k0_pay153 k0_pay154 k0_pay155 k0_pay156 k0_pay157 k0_pay158 k0_pay159 k0_pay160 k0_pay161 k0_pay162 k0_pay163 k0_pay164 k0_pay80 k0_pay81 k0_pay82 k0_pay83 k0_pay84 k0_pay85 k0_pay86 k0_pay87 k0_pay88 k0_pay89 k0_pay90 k0_pay91
  generalize k0_pay116 (F := Ideal) x0 x1 x2 = a
  generalize ((k0_pay79 (F := Ideal) (k0_pay119 (F := Ideal) x0 x1 x2)) : FVec Ideal S1280x128 .f32) = b
  pointwise [k0_pay1, k0_pay92]
  simp only [sel_lt l 8 (by decide), sel_lt l 12 (by decide), sel_lt l 16 (by decide), sel_lt l 24 (by decide),
    sel_lt l 32 (by decide), sel_lt l 48 (by decide), sel_lt l 64 (by decide)]

end Body
-- ==== Proof.GateTiles.lean ====
module

public import proofs.«01_k».proof.Proof.GateBody

/-! The gates' preparation: its two results' blocks, from what each quarter of a block stores. -/

@[expose] public section

set_option maxRecDepth 16384

noncomputable section

namespace Cert.Gate.Hand

open Idealize.ShloMosaic Idealize.ShloMosaic.TcCoe Idealize.SL.Sem Cert.GateIdeal Cert.GateIdeal.Gen

section Body
variable (x0 : FVec Ideal S1x1024x128 .f32) (x1 : FVec Ideal S8x128 .f32) (x2 : FVec Ideal S1280x256 .bf16)

/-- A quarter as it is stored in the first result. -/
theorem cast_at (a : FVec Ideal S256x128 .f32) (y : S1x256x128.Idx) :
    shapeCast S1x256x128 a shapeCasts_S256x128_S1x256x128 y = a (ix2 (y 1) (y 2)) := by
  pointwise

/-- A quarter as it is stored in the second result. -/
theorem cast_tr_at (a : FVec Ideal S256x128 .f32) (y : S1x128x256.Idx) :
    shapeCast S1x128x256 (transpose S128x256 [1, 0] a transposes_S256x128_p1_0_S128x256) shapeCasts_S128x256_S1x128x256 y
      = a (ix2 (y 2) (y 1)) := by
  pointwise

/-- What a quarter of a block stores. -/
abbrev QO (o : Nat) (ho : o ≤ 768) (r : Fin 256) (l : Fin 128) : EReal :=
  KOUT (EB x0 x1 o ho) (fun i l => YS x2 (fun s => EB x0 x1 o ho s l) i) r l

variable (G : Fin 1024 → Fin 128 → EReal)
  (g0 : ∀ (i : Fin 1024) (r : Fin 256) (l : Fin 128), i.val = 0 + r.val → QO x0 x1 x2 0 (by decide) r l = G i l)
  (g1 : ∀ (i : Fin 1024) (r : Fin 256) (l : Fin 128), i.val = 256 + r.val → QO x0 x1 x2 256 (by decide) r l = G i l)
  (g2 : ∀ (i : Fin 1024) (r : Fin 256) (l : Fin 128), i.val = 512 + r.val → QO x0 x1 x2 512 (by decide) r l = G i l)
  (g3 : ∀ (i : Fin 1024) (r : Fin 256) (l : Fin 128), i.val = 768 + r.val → QO x0 x1 x2 768 (by decide) r l = G i l)
include g0 g1 g2 g3

/-- The first result's block. -/
theorem out3 (i : S1x1024x128.Idx) : out0_3 (F := Ideal) x0 x1 x2 i = G (i 1) (i 2) := by
  unfold out0_3
  canon_tiles y h
  · exact (cast_at _ y).trans ((o3 x0 x1 x2 (y 1) (y 2)).trans ((g3 (i 1) (y 1) (y 2) (by omega)).trans
      (congrArg (G (i 1)) (Fin.ext h2.symm))))
  · exact (cast_at _ y).trans ((o2 x0 x1 x2 (y 1) (y 2)).trans ((g2 (i 1) (y 1) (y 2) (by omega)).trans
      (congrArg (G (i 1)) (Fin.ext h2.symm))))
  · exact (cast_at _ y).trans ((o1 x0 x1 x2 (y 1) (y 2)).trans ((g1 (i 1) (y 1) (y 2) (by omega)).trans
      (congrArg (G (i 1)) (Fin.ext h2.symm))))
  · exact (cast_at _ y).trans ((o0 x0 x1 x2 (y 1) (y 2)).trans ((g0 (i 1) (y 1) (y 2) (by omega)).trans
      (congrArg (G (i 1)) (Fin.ext h2.symm))))

/-- The second result's block. -/
theorem out4 (i : S1x128x1024.Idx) : out0_4 (F := Ideal) x0 x1 x2 i = G (i 2) (i 1) := by
  unfold out0_4
  canon_tiles y h
  · exact (cast_tr_at _ y).trans ((o3 x0 x1 x2 (y 2) (y 1)).trans ((g3 (i 2) (y 2) (y 1) (by omega)).trans
      (congrArg (G (i 2)) (Fin.ext h1.symm))))
  · exact (cast_tr_at _ y).trans ((o2 x0 x1 x2 (y 2) (y 1)).trans ((g2 (i 2) (y 2) (y 1) (by omega)).trans
      (congrArg (G (i 2)) (Fin.ext h1.symm))))
  · exact (cast_tr_at _ y).trans ((o1 x0 x1 x2 (y 2) (y 1)).trans ((g1 (i 2) (y 2) (y 1) (by omega)).trans
      (congrArg (G (i 2)) (Fin.ext h1.symm))))
  · exact (cast_tr_at _ y).trans ((o0 x0 x1 x2 (y 2) (y 1)).trans ((g0 (i 2) (y 2) (y 1) (by omega)).trans
      (congrArg (G (i 2)) (Fin.ext h1.symm))))

end Body
end Cert.Gate.Hand
-- ==== Proof.GateValue.lean ====
module

public import proofs.«01_k».proof.Proof.GateBlocks
public import proofs.«01_k».proof.Proof.GateTiles

/-! The gates' preparation: what it leaves in its two results, as sums over the arguments. -/

@[expose] public section

set_option maxRecDepth 16384

noncomputable section

namespace Cert.Gate.Hand

open Idealize.ShloMosaic Idealize.ShloMosaic.TcCoe Idealize.SL.Sem Cert.GateIdeal Cert.GateIdeal.Gen
open Idealize.ShloMosaic.Pipeline (Dat)

/-- A sum with an infinitely small term is infinitely small. -/
theorem sum_bot {n : Nat} (f : Fin n → EReal) (x : Fin n) (h : f x = ⊥) : ∑ k, f k = ⊥ := by
  rw [← Finset.add_sum_erase Finset.univ f (Finset.mem_univ x), h, EReal.bot_add]

/-- The three products with a matrix of zeros and ones add up to the masked sum. -/
theorem masked {n : Nat} (c E : Fin n → EReal) (P : Fin n → Prop) [DecidablePred P] (hc : ∀ x, c x = if P x then 1 else 0)
    (hE : ∀ x, E x ≠ ⊤) :
    (∑ x, c x * E x) + (∑ x, c x * (E x - E x)) + (∑ x, c x * ((E x - E x) - (E x - E x))) = ∑ x, if P x then E x else 0 := by
  have h1 : ∀ x, c x * E x = if P x then E x else 0 := fun x => by
    rw [hc]; split_ifs <;> simp
  rw [Finset.sum_congr rfl fun x _ => h1 x]
  by_cases hb : ∃ x, P x ∧ E x = ⊥
  · obtain ⟨x, hp, hx⟩ := hb
    rw [sum_bot (fun x => if P x then E x else 0) x (by simp only [if_pos hp, hx]), EReal.bot_add, EReal.bot_add]
  · have hz : ∀ x, P x → E x - E x = 0 := fun x hp => by
      have hb' : E x ≠ ⊥ := fun h => hb ⟨x, hp, h⟩
      exact EReal.sub_self (hE x) hb'
    have h2 : ∀ x, c x * (E x - E x) = 0 := fun x => by
      rw [hc]
      split_ifs with hp
      · rw [hz x hp, mul_zero]
      · rw [zero_mul]
    have h3 : ∀ x, c x * ((E x - E x) - (E x - E x)) = 0 := fun x => by
      rw [hc]
      split_ifs with hp
      · rw [hz x hp, sub_zero, mul_zero]
      · rw [zero_mul]
    rw [Finset.sum_congr rfl fun x _ => h2 x, Finset.sum_congr rfl fun x _ => h3 x, Finset.sum_const_zero, add_zero, add_zero]

/-- A choice on two conditions, made one after the other. -/
theorem ite_two (p q : Prop) [Decidable p] [Decidable q] (x : EReal) : (if p ∧ q then x else 0) = if q then (if p then x else 0) else 0 := by
  by_cases hp : p <;> by_cases hq : q <;> simp [hp, hq]

/-- A sum over one stretch of 64 of 256 terms. -/
theorem stretch (a : Nat) (ha : a < 4) (G : Fin 256 → EReal) :
    (∑ x : Fin 256, if a = x.val / 64 then G x else 0) = ∑ k : Fin 64, G ⟨a * 64 + k.val, by omega⟩ := by
  rw [← Finset.sum_filter]
  refine Finset.sum_nbij' (fun x => (⟨x.val % 64, Nat.mod_lt _ (by decide)⟩ : Fin 64)) (fun k => (⟨a * 64 + k.val, by omega⟩ : Fin 256)) ?_ ?_ ?_ ?_ ?_
  · intro x _; exact Finset.mem_univ _
  · intro k _
    refine Finset.mem_filter.mpr ⟨Finset.mem_univ _, ?_⟩
    show a = (a * 64 + k.val) / 64
    omega
  · intro x hx
    have := (Finset.mem_filter.mp hx).2
    refine Fin.ext ?_
    show a * 64 + x.val % 64 = x.val
    omega
  · intro k _
    refine Fin.ext ?_
    show (a * 64 + k.val) % 64 = k.val
    omega
  · intro x hx
    have := (Finset.mem_filter.mp hx).2
    refine congrArg G (Fin.ext ?_)
    show x.val = a * 64 + x.val % 64
    omega

/-- The exponential is not negative. -/
theorem exp_nonneg (x : EReal) : 0 ≤ Ideal.exp x := by
  induction x with
  | bot => exact le_refl _
  | top => exact le_top
  | coe r => exact EReal.coe_nonneg.mpr (Real.exp_pos r).le

/-- The logarithm of one plus a number that is not negative is not negative. -/
theorem log1p_nonneg (x : EReal) (h : 0 ≤ x) : 0 ≤ Ideal.log1p x := by
  induction x with
  | bot => exact absurd h (by simp)
  | top =>
    rw [Ideal.log1p, EReal.add_top_of_ne_bot (by decide)]
    exact le_top
  | coe r =>
    have hr : 0 ≤ r := EReal.coe_nonneg.mp h
    have e : (1 : EReal) + (r : EReal) = ((1 + r : ℝ) : EReal) := by norm_cast
    rw [Ideal.log1p, e]
    show 0 ≤ (if (1 + r) ≤ 0 then (⊥ : EReal) else (Real.log (1 + r) : EReal))
    rw [if_neg (by linarith)]
    exact EReal.coe_nonneg.mpr (Real.log_nonneg (by linarith))

/-- The stable form is not negative. -/
theorem sp_nonneg (x : EReal) : 0 ≤ SP x :=
  add_nonneg (le_max_right _ _) (log1p_nonneg _ (exp_nonneg _))

/-- A summed lane's gate is not infinitely large. -/
theorem ge_ne_top (x a : EReal) (l : Fin 128) (h : 8 ≤ l.val) (h' : l.val < 32) : GE x a l ≠ ⊤ := by
  have key : ∀ z : EReal, z ≤ 0 → z ≠ ⊤ := fun z hz h => by rw [h] at hz; exact absurd hz (by simp)
  have neg : ∀ z : EReal, 0 ≤ z → 0 - z ≤ 0 := fun z hz => by
    rw [sub_eq_add_neg, zero_add]; exact EReal.neg_le_zero.mpr hz
  rw [GE, if_neg (by omega)]
  by_cases h1 : l.val < 16
  · rw [if_pos h1]
    exact key _ (neg _ (sp_nonneg _))
  · rw [if_neg h1, if_pos h']
    refine key _ ?_
    exact mul_nonpos_of_nonpos_of_nonneg (neg _ (exp_nonneg a)) (sp_nonneg x)

section Spec
variable (S : FVec Ideal S16384x128 .f32) (a1 a2 : FVec Ideal S1x2x4 .f32) (a3 a4 : FVec Ideal S1x2x8 .f32)

/-- A token's gate at a lane. -/
abbrev GA (i : Fin 16384) (l : Fin 128) : EReal := GE (S (ix2 i l) + BI a1 a2 a4 l) (DE a3 l) l

/-- What is prepared for a token at a lane. -/
abbrev SPEC (i : Fin 16384) (l : Fin 128) : EReal :=
  if l.val < 8 then GA S a1 a2 a3 a4 i l
  else if l.val < 12 then ∑ k : Fin 256, if k.val ≤ i.val % 256 then GA S a1 a2 a3 a4 ⟨i.val / 256 * 256 + k.val, by omega⟩ l else 0
  else if l.val < 16 then ∑ k : Fin 256, if i.val % 256 ≤ k.val then GA S a1 a2 a3 a4 ⟨i.val / 256 * 256 + k.val, by omega⟩ l else 0
  else if l.val < 24 then ∑ k : Fin 64, if k.val ≤ i.val % 64 then GA S a1 a2 a3 a4 ⟨i.val / 64 * 64 + k.val, by omega⟩ l else 0
  else if l.val < 32 then ∑ k : Fin 64, if i.val % 64 ≤ k.val then GA S a1 a2 a3 a4 ⟨i.val / 64 * 64 + k.val, by omega⟩ l else 0
  else if l.val < 48 then GA S a1 a2 a3 a4 i l
  else if h : l.val < 64 then ∑ k : Fin 64, GA S a1 a2 a3 a4 ⟨i.val / 64 * 64 + k.val, by omega⟩ ⟨l.val - 32, by omega⟩
  else 0

/-- What a quarter of a block stores is what is prepared for its tokens. -/
theorem kout_spec (q : Nat) (hq : q < 64) (E : Fin 256 → Fin 128 → EReal)
    (hE : ∀ s l, E s l = GA S a1 a2 a3 a4 ⟨q * 256 + s.val, by omega⟩ l) (r : Fin 256) (l : Fin 128) (i : Fin 16384) (hi : i.val = q * 256 + r.val) :
    KOUT E (fun i l => YS MATS (fun s => E s l) i) r l = SPEC S a1 a2 a3 a4 i l := by
  have hEt : ∀ (l : Fin 128), 8 ≤ l.val → l.val < 32 → ∀ s, E s l ≠ ⊤ := fun l h h' s => by
    rw [hE]; exact ge_ne_top _ _ _ h h'
  have hg : ∀ (s : Fin 256) (l : Fin 128) (j : Fin 16384), j.val = q * 256 + s.val → E s l = GA S a1 a2 a3 a4 j l := fun s l j hj => by
    rw [hE s l, show (⟨q * 256 + s.val, by omega⟩ : Fin 16384) = j from Fin.ext hj.symm]
  have h256 : i.val / 256 * 256 = q * 256 := by omega
  have hr : i.val % 256 = r.val := by omega
  unfold KOUT SPEC
  by_cases c0 : l.val < 8
  · rw [if_pos c0, if_pos c0]; exact hg r l i hi
  rw [if_neg c0, if_neg c0]
  by_cases c1 : l.val < 12
  · rw [if_pos c1, if_pos c1]
    refine (masked _ _ (fun x => x.val ≤ r.val) (mat0 r) (hEt l (by omega) (by omega))).trans (Finset.sum_congr rfl fun k _ => ?_)
    rw [hr, hg k l ⟨i.val / 256 * 256 + k.val, by omega⟩ (by show i.val / 256 * 256 + k.val = _; omega)]
  rw [if_neg c1, if_neg c1]
  by_cases c2 : l.val < 16
  · rw [if_pos c2, if_pos c2]
    refine (masked _ _ (fun x => r.val ≤ x.val) (mat1 r) (hEt l (by omega) (by omega))).trans (Finset.sum_congr rfl fun k _ => ?_)
    rw [hr, hg k l ⟨i.val / 256 * 256 + k.val, by omega⟩ (by show i.val / 256 * 256 + k.val = _; omega)]
  rw [if_neg c2, if_neg c2]
  by_cases c3 : l.val < 24
  · rw [if_pos c3, if_pos c3]
    refine (masked _ _ (fun x => x.val ≤ r.val ∧ r.val / 64 = x.val / 64) (mat2 r) (hEt l (by omega) (by omega))).trans ?_
    refine (Finset.sum_congr rfl fun x _ => (?_ : _ = if r.val / 64 = x.val / 64 then (if x.val ≤ r.val then E x l else 0) else 0)).trans
      ((stretch (r.val / 64) (by omega) _).trans (Finset.sum_congr rfl fun k _ => ?_))
    · exact ite_two _ _ _
    · rw [hg _ l ⟨i.val / 64 * 64 + k.val, by omega⟩ (by show i.val / 64 * 64 + k.val = q * 256 + (r.val / 64 * 64 + k.val); omega)]
      exact if_congr (by show r.val / 64 * 64 + k.val ≤ r.val ↔ k.val ≤ i.val % 64; omega) rfl rfl
  rw [if_neg c3, if_neg c3]
  by_cases c4 : l.val < 32
  · rw [if_pos c4, if_pos c4]
    refine (masked _ _ (fun x => r.val ≤ x.val ∧ r.val / 64 = x.val / 64) (mat3 r) (hEt l (by omega) (by omega))).trans ?_
    refine (Finset.sum_congr rfl fun x _ => (?_ : _ = if r.val / 64 = x.val / 64 then (if r.val ≤ x.val then E x l else 0) else 0)).trans
      ((stretch (r.val / 64) (by omega) _).trans (Finset.sum_congr rfl fun k _ => ?_))
    · exact ite_two _ _ _
    · rw [hg _ l ⟨i.val / 64 * 64 + k.val, by omega⟩ (by show i.val / 64 * 64 + k.val = q * 256 + (r.val / 64 * 64 + k.val); omega)]
      exact if_congr (by show r.val ≤ r.val / 64 * 64 + k.val ↔ i.val % 64 ≤ k.val; omega) rfl rfl
  rw [if_neg c4, if_neg c4]
  by_cases c5 : l.val < 48
  · rw [if_pos c5, if_pos c5]; exact hg r l i hi
  rw [if_neg c5, if_neg c5]
  by_cases c6 : l.val < 64
  · rw [if_pos c6, dif_pos c6]
    have hl : (⟨(l.val + 128 - 32) % 128, Nat.mod_lt _ (by decide)⟩ : Fin 128) = ⟨l.val - 32, by omega⟩ :=
      Fin.ext (by show (l.val + 128 - 32) % 128 = l.val - 32; omega)
    rw [hl]
    refine (masked _ _ (fun x => r.val / 64 = x.val / 64) (mat4 r) (hEt ⟨l.val - 32, by omega⟩ (by show 8 ≤ l.val - 32; omega) (by show l.val - 32 < 32; omega))).trans ?_
    refine (stretch (r.val / 64) (by omega) _).trans (Finset.sum_congr rfl fun k _ => ?_)
    exact hg _ _ ⟨i.val / 64 * 64 + k.val, by omega⟩ (by show i.val / 64 * 64 + k.val = q * 256 + (r.val / 64 * 64 + k.val); omega)
  · rw [if_neg c6, dif_neg c6]

end Spec

variable (m : (ℓ : Loc nD τ sig) → Buf (Elt Ideal) ℓ)

/-- The narrow projection's block at a point. -/
abbrev sB (c : Dev nD) (t : Fin cfg0.N) : FVec Ideal S1x1024x128 .f32 := iblk m c 0 t
/-- The parameters' block at a point. -/
abbrev pB (c : Dev nD) (t : Fin cfg0.N) : FVec Ideal S8x128 .f32 := iblk m c 1 t
/-- The matrix's block at a point. -/
abbrev mB (c : Dev nD) (t : Fin cfg0.N) : FVec Ideal S1280x256 .bf16 := iblk m c 2 t

/-- A block's gates at a point are its tokens'. -/
theorem eb_point (c : Dev nD) (t : Fin cfg0.N) (o : Nat) (ho : o ≤ 768) (s : Fin 256) (l : Fin 128) (i : Fin 16384)
    (hi : i.val = t.val * 1024 + (o + s.val)) :
    EB (sB m c t) (pB m c t) o ho s l = GA (aS m c) (aI m c) (aF m c) (aA m c) (aD m c) i l := by
  have e0 : (sB m c t) (ix3 0 ⟨o + s.val, by omega⟩ l) = aS m c (ix2 i l) := b0 m c t ⟨o + s.val, by omega⟩ l i hi
  have e1 : (pB m c t) (ix2 0 l) = BI (aI m c) (aF m c) (aD m c) l := (b1 m c t 0 l).trans (par0 _ _ _ _ l)
  have e2 : (pB m c t) (ix2 1 l) = DE (aA m c) l := (b1 m c t 1 l).trans (par1 _ _ _ _ l)
  unfold EB GA
  rw [e0, e1, e2]

/-- What a quarter of a block stores at a point. -/
theorem qo_point (c : Dev nD) (t : Fin cfg0.N) (n : Nat) (o : Nat) (hn : n < 4) (hon : o = n * 256) (ho : o ≤ 768) (r : Fin 256) (l : Fin 128) (i : Fin 16384)
    (hi : i.val = t.val * 1024 + (o + r.val)) :
    QO (sB m c t) (pB m c t) (mB m c t) o ho r l = SPEC (aS m c) (aI m c) (aF m c) (aA m c) (aD m c) i l := by
  have ht : t.val < 16 := t.isLt
  unfold QO
  rw [show mB m c t = MATS from b2 m c t]
  exact kout_spec (aS m c) (aI m c) (aF m c) (aA m c) (aD m c) (t.val * 4 + n) (by omega) (EB (sB m c t) (pB m c t) o ho)
    (fun s l => eb_point m c t o ho s l ⟨(t.val * 4 + n) * 256 + s.val, by omega⟩ (by show (t.val * 4 + n) * 256 + s.val = _; omega)) r l i (by omega)

/-- The first result: what is prepared, lanes last. -/
abbrev OUT1 (S : FVec Ideal S16384x128 .f32) (a1 a2 : FVec Ideal S1x2x4 .f32) (a3 a4 : FVec Ideal S1x2x8 .f32) : FVec Ideal S8x2048x128 .f32 :=
  fun j => SPEC S a1 a2 a3 a4 ⟨(j 0).val * 2048 + (j 1).val, by have h0 : (j 0).val < 8 := (j 0).isLt; have h1 : (j 1).val < 2048 := (j 1).isLt; omega⟩ (j 2)

/-- The second result: what is prepared, tokens last. -/
abbrev OUT2 (S : FVec Ideal S16384x128 .f32) (a1 a2 : FVec Ideal S1x2x4 .f32) (a3 a4 : FVec Ideal S1x2x8 .f32) : FVec Ideal S8x128x2048 .f32 :=
  fun j => SPEC S a1 a2 a3 a4 ⟨(j 0).val * 2048 + (j 2).val, by have h0 : (j 0).val < 8 := (j 0).isLt; have h1 : (j 2).val < 2048 := (j 2).isLt; omega⟩ (j 1)

/-- Where an element of the first result's block lies. -/
theorem emb3 (t : Fin cfg0.N) (y : S1x1024x128.Idx) :
    ((((cfg0.win 3).blk t).view.emb y) 0).val = t.val / 2 + (y 0).val
    ∧ ((((cfg0.win 3).blk t).view.emb y) 1).val = t.val % 2 * 1024 + (y 1).val
    ∧ ((((cfg0.win 3).blk t).view.emb y) 2).val = (y 2).val := by
  refine ⟨?_, ?_, ?_⟩ <;> blk_simp [idx t] <;> rfl

/-- Where an element of the second result's block lies. -/
theorem emb4 (t : Fin cfg0.N) (y : S1x128x1024.Idx) :
    ((((cfg0.win 4).blk t).view.emb y) 0).val = t.val / 2 + (y 0).val
    ∧ ((((cfg0.win 4).blk t).view.emb y) 1).val = (y 1).val
    ∧ ((((cfg0.win 4).blk t).view.emb y) 2).val = t.val % 2 * 1024 + (y 2).val := by
  refine ⟨?_, ?_, ?_⟩ <;> blk_simp [idx t] <;> rfl

/-- What a point leaves in the first result, at a place of it. -/
theorem point3 (c : Dev nD) (t : Fin cfg0.N) (y : S1x1024x128.Idx) (j : S8x2048x128.Idx) (h0 : (j 0).val = t.val / 2 + (y 0).val)
    (h1 : (j 1).val = t.val % 2 * 1024 + (y 1).val) (h2 : (j 2).val = (y 2).val) :
    out0_3 (F := Ideal) (sB m c t) (pB m c t) (mB m c t) y = OUT1 (aS m c) (aI m c) (aF m c) (aA m c) (aD m c) j := by
  have ht : t.val < 16 := t.isLt
  have hy : (y 0).val = 0 := by have : (y 0).val < 1 := (y 0).isLt; omega
  have q := fun n o hn hon ho (i : Fin 1024) (r : Fin 256) (l : Fin 128) (hi : i.val = o + r.val) =>
    qo_point m c t n o hn hon ho r l ⟨t.val * 1024 + i.val, by omega⟩ (by show t.val * 1024 + i.val = _; omega)
  refine (out3 (sB m c t) (pB m c t) (mB m c t)
    (fun i l => SPEC (aS m c) (aI m c) (aF m c) (aA m c) (aD m c) ⟨t.val * 1024 + i.val, by omega⟩ l)
    (q 0 0 (by decide) rfl (by decide)) (q 1 256 (by decide) rfl (by decide)) (q 2 512 (by decide) rfl (by decide))
    (q 3 768 (by decide) rfl (by decide)) y).trans ?_
  refine congrArg₂ (SPEC (aS m c) (aI m c) (aF m c) (aA m c) (aD m c)) (Fin.ext ?_) (Fin.ext h2.symm)
  show t.val * 1024 + (y 1).val = (j 0).val * 2048 + (j 1).val
  omega

/-- What a point leaves in the second result, at a place of it. -/
theorem point4 (c : Dev nD) (t : Fin cfg0.N) (y : S1x128x1024.Idx) (j : S8x128x2048.Idx) (h0 : (j 0).val = t.val / 2 + (y 0).val)
    (h1 : (j 1).val = (y 1).val) (h2 : (j 2).val = t.val % 2 * 1024 + (y 2).val) :
    out0_4 (F := Ideal) (sB m c t) (pB m c t) (mB m c t) y = OUT2 (aS m c) (aI m c) (aF m c) (aA m c) (aD m c) j := by
  have ht : t.val < 16 := t.isLt
  have hy : (y 0).val = 0 := by have : (y 0).val < 1 := (y 0).isLt; omega
  have q := fun n o hn hon ho (i : Fin 1024) (r : Fin 256) (l : Fin 128) (hi : i.val = o + r.val) =>
    qo_point m c t n o hn hon ho r l ⟨t.val * 1024 + i.val, by omega⟩ (by show t.val * 1024 + i.val = _; omega)
  refine (out4 (sB m c t) (pB m c t) (mB m c t)
    (fun i l => SPEC (aS m c) (aI m c) (aF m c) (aA m c) (aD m c) ⟨t.val * 1024 + i.val, by omega⟩ l)
    (q 0 0 (by decide) rfl (by decide)) (q 1 256 (by decide) rfl (by decide)) (q 2 512 (by decide) rfl (by decide))
    (q 3 768 (by decide) rfl (by decide)) y).trans ?_
  refine congrArg₂ (SPEC (aS m c) (aI m c) (aF m c) (aA m c) (aD m c)) (Fin.ext ?_) (Fin.ext h1.symm)
  show t.val * 1024 + (y 2).val = (j 0).val * 2048 + (j 2).val
  omega

/-- The first result array after the run. -/
theorem final3 (c : Dev nD) : (dats m 0 c).arrAt 3 cfg0.N = OUT1 (aS m c) (aI m c) (aF m c) (aA m c) (aD m c) := by
  refine (dats m 0 c).arrAt_eq_of_covers 3 _ (by decide +kernel) fun t hf y => ?_
  have e := emb3 t y
  blk_simp
  rw [after0_3]
  exact point3 m c t y _ e.1 e.2.1 e.2.2

/-- The second result array after the run. -/
theorem final4 (c : Dev nD) : (dats m 0 c).arrAt 4 cfg0.N = OUT2 (aS m c) (aI m c) (aF m c) (aA m c) (aD m c) := by
  refine (dats m 0 c).arrAt_eq_of_covers 4 _ (by decide +kernel) fun t hf y => ?_
  have e := emb4 t y
  blk_simp
  rw [after0_4]
  exact point4 m c t y _ e.1 e.2.1 e.2.2

end Cert.Gate.Hand
-- ==== Proof.GateRef.lean ====
module

public import proofs.«01_k».proof.Proof.GateValue
public import proofs.«01_k».proof.Proof.Gen.GateRefIdeal.Run
public import proofs.«01_k».proof.Proof.Gen.GateRefIdeal.Read
public import proofs.«01_k».proof.Defs
public import Idealize.ShloMosaic.Lib.Pipeline.ValueKit

/-! The gates' preparation against its reference. -/

@[expose] public section

set_option maxRecDepth 16384

noncomputable section

namespace Cert.Gate.Hand

open Idealize.ShloMosaic Idealize.ShloMosaic.TcCoe Idealize.SL.Sem Cert.GateRefIdeal Cert.GateRefIdeal.Read
variable (S : FVec Ideal S16384x128 .f32) (a1 a2 : FVec Ideal S1x2x4 .f32) (a3 a4 : FVec Ideal S1x2x8 .f32)

/-- The constant that the reference puts off the mask. -/
theorem zc : id (constant (F := Ideal) Cert.GateRefIdeal.S_ .f32 0x00000000#32) ix0 = (0 : EReal) := by
  show constant (F := Ideal) Cert.GateRefIdeal.S_ .f32 0x00000000#32 ix0 = (0 : EReal)
  pointwise

/-- A choice on a mask of zeros and ones. -/
theorem sel_ite (p : Prop) [Decidable p] (x y : EReal) : Scalar.select (if p then 1#1 else 0#1) x y = if p then x else y := by
  by_cases h : p <;> simp [Scalar.select, h]

/-- The reference's first gate. -/
theorem r9 (b : Fin 8) (q : Fin 2048) (n : Fin 8) (i : Fin 16384) (l : Fin 128) (hi : i.val = b.val * 2048 + q.val)
    (hl : l.val = n.val) : val_main_v9 (F := Ideal) S a1 (ix3 b q n) = GA S a1 a2 a3 a4 i l := by
  pointwise [val_main_v0, val_main_v1, val_main_v2, val_main_v3, val_main_v4, val_main_v5, val_main_v6, val_main_v7, val_main_v8, val_main_v9]
  obtain ⟨i, _⟩ := i
  obtain ⟨l, _⟩ := l
  simp only at hi hl
  subst hi hl
  simp only [GA, GE, BI]
  rw [if_pos n.isLt, dif_pos n.isLt]

/-- The reference's second gate, in logarithms. -/
theorem r15 (b : Fin 8) (q : Fin 2048) (n : Fin 8) (i : Fin 16384) (l : Fin 128) (hi : i.val = b.val * 2048 + q.val)
    (hl : l.val = 8 + n.val) : val_main_v15 (F := Ideal) S a2 (ix3 b q n) = GA S a1 a2 a3 a4 i l := by
  pointwise [val_main_v0, val_main_v1, val_main_v2, val_main_v10, val_main_v11, val_main_v12, val_main_v13, val_main_v14, val_main_v15, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  obtain ⟨i, _⟩ := i
  obtain ⟨l, _⟩ := l
  simp only at hi hl
  subst hi hl
  simp only [GA, GE, BI, SP, ne_eq, not_true_eq_false, if_false]
  rw [if_neg (by omega), if_pos (by omega), dif_neg (by omega), dif_pos (by omega)]
  simp only [Nat.add_sub_cancel_left, sub_eq_add_neg, zero_add]

/-- The reference's decay. -/
theorem r28 (b : Fin 8) (q : Fin 2048) (n : Fin 16) (i : Fin 16384) (l : Fin 128) (hi : i.val = b.val * 2048 + q.val)
    (hl : l.val = 16 + n.val) : val_main_v28 (F := Ideal) S a3 a4 (ix3 b q n) = GA S a1 a2 a3 a4 i l := by
  pointwise [val_main_v0, val_main_v3, val_main_v16, val_main_v17, val_main_v18, val_main_v19, val_main_v20, val_main_v21, val_main_v22, val_main_v23, val_main_v24, val_main_v25, val_main_v26, val_main_v27, val_main_v28, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  obtain ⟨i, _⟩ := i
  obtain ⟨l, _⟩ := l
  simp only at hi hl
  subst hi hl
  simp only [GA, GE, BI, DE, SP, ne_eq, not_true_eq_false, if_false]
  rw [if_neg (by omega), if_neg (by omega), if_pos (by omega), dif_pos (by omega), dif_neg (by omega), dif_neg (by omega),
    dif_pos (by omega)]
  simp only [Nat.add_sub_cancel_left, sub_eq_add_neg, zero_add]

/-- The reference's write strength. -/
theorem r34 (b : Fin 8) (q : Fin 2048) (n : Fin 16) (i : Fin 16384) (l : Fin 128) (hi : i.val = b.val * 2048 + q.val)
    (hl : l.val = 32 + n.val) : val_main_v34 (F := Ideal) S (ix3 b q n) = GA S a1 a2 a3 a4 i l := by
  pointwise [val_main_v0, val_main_v4, val_main_v29, val_main_v30, val_main_v31, val_main_v32, val_main_v33, val_main_v34, val_main_cst, val_main_cst_0]
  obtain ⟨i, _⟩ := i
  obtain ⟨l, _⟩ := l
  simp only at hi hl
  subst hi hl
  simp only [GA, GE, BI]
  rw [if_neg (by omega), if_neg (by omega), if_neg (by omega), if_pos (by omega), dif_neg (by omega), dif_neg (by omega),
    dif_neg (by omega)]
  simp only [sub_eq_add_neg, zero_add, add_zero]

/-- The reference's running sums within blocks of 256 rows. -/
theorem r41 (b : Fin 8) (q : Fin 2048) (n : Fin 8) (i : Fin 16384) (l : Fin 128) (hi : i.val = b.val * 2048 + q.val)
    (hl : l.val = 8 + n.val) : val_main_v41 (F := Ideal) S a2 (ix3 b q n) =
      ∑ k : Fin 256, if k.val ≤ i.val % 256 then GA S a1 a2 a3 a4 ⟨i.val / 256 * 256 + k.val, by omega⟩ l else 0 := by
  pointwise [val_main_v35, val_main_v36, val_main_v37, val_main_v38, val_main_v39, val_main_v40, val_main_v41, val_main_cst_1, val_main_cst_2, val_main_call2_v0, val_main_call2_v1, val_main_call2_v2, val_main_call2_v3]
  refine Finset.sum_congr rfl fun k _ => ?_
  have e := r15 S a1 a2 a3 a4 b ⟨q.val / 256 * 256 + k.val, by omega⟩ n ⟨i.val / 256 * 256 + k.val, by omega⟩ l
    (by show i.val / 256 * 256 + k.val = b.val * 2048 + (q.val / 256 * 256 + k.val); omega) hl
  have eq : q.val % 256 = i.val % 256 := by omega
  rw [zc, eq, sle_small _ _ (by omega) (by omega), sel_ite, e]

/-- The reference's reversed sums within blocks of 256 rows. -/
theorem r45 (b : Fin 8) (q : Fin 2048) (n : Fin 8) (i : Fin 16384) (l : Fin 128) (hi : i.val = b.val * 2048 + q.val)
    (hl : l.val = 8 + n.val) : val_main_v45 (F := Ideal) S a2 (ix3 b q n) =
      ∑ k : Fin 256, if i.val % 256 ≤ k.val then GA S a1 a2 a3 a4 ⟨i.val / 256 * 256 + k.val, by omega⟩ l else 0 := by
  pointwise [val_main_v35, val_main_v36, val_main_v37, val_main_v42, val_main_v43, val_main_v44, val_main_v45, val_main_cst_3, val_main_cst_4, val_main_call3_v0, val_main_call3_v1, val_main_call3_v2, val_main_call3_v3]
  refine Finset.sum_congr rfl fun k _ => ?_
  have e := r15 S a1 a2 a3 a4 b ⟨q.val / 256 * 256 + k.val, by omega⟩ n ⟨i.val / 256 * 256 + k.val, by omega⟩ l
    (by show i.val / 256 * 256 + k.val = b.val * 2048 + (q.val / 256 * 256 + k.val); omega) hl
  have eq : q.val % 256 = i.val % 256 := by omega
  rw [zc, eq, sge_small _ _ (by omega) (by omega), sel_ite, e]

/-- The reference's running decay within blocks of 64 rows. -/
theorem r52 (b : Fin 8) (q : Fin 2048) (n : Fin 16) (i : Fin 16384) (l : Fin 128) (hi : i.val = b.val * 2048 + q.val)
    (hl : l.val = 16 + n.val) : val_main_v52 (F := Ideal) S a3 a4 (ix3 b q n) =
      ∑ k : Fin 64, if k.val ≤ i.val % 64 then GA S a1 a2 a3 a4 ⟨i.val / 64 * 64 + k.val, by omega⟩ l else 0 := by
  pointwise [val_main_v46, val_main_v47, val_main_v48, val_main_v49, val_main_v50, val_main_v51, val_main_v52, val_main_cst_5, val_main_cst_6, val_main_call4_v0, val_main_call4_v1, val_main_call4_v2, val_main_call4_v3]
  refine Finset.sum_congr rfl fun k _ => ?_
  have e := r28 S a1 a2 a3 a4 b ⟨q.val / 64 * 64 + k.val, by omega⟩ n ⟨i.val / 64 * 64 + k.val, by omega⟩ l
    (by show i.val / 64 * 64 + k.val = b.val * 2048 + (q.val / 64 * 64 + k.val); omega) hl
  have eq : q.val % 64 = i.val % 64 := by omega
  rw [zc, eq, sle_small _ _ (by omega) (by omega), sel_ite, e]

/-- The reference's reversed decay within blocks of 64 rows. -/
theorem r56 (b : Fin 8) (q : Fin 2048) (n : Fin 16) (i : Fin 16384) (l : Fin 128) (hi : i.val = b.val * 2048 + q.val)
    (hl : l.val = 16 + n.val) : val_main_v56 (F := Ideal) S a3 a4 (ix3 b q n) =
      ∑ k : Fin 64, if i.val % 64 ≤ k.val then GA S a1 a2 a3 a4 ⟨i.val / 64 * 64 + k.val, by omega⟩ l else 0 := by
  pointwise [val_main_v46, val_main_v47, val_main_v48, val_main_v53, val_main_v54, val_main_v55, val_main_v56, val_main_cst_7, val_main_cst_8, val_main_call5_v0, val_main_call5_v1, val_main_call5_v2, val_main_call5_v3]
  refine Finset.sum_congr rfl fun k _ => ?_
  have e := r28 S a1 a2 a3 a4 b ⟨q.val / 64 * 64 + k.val, by omega⟩ n ⟨i.val / 64 * 64 + k.val, by omega⟩ l
    (by show i.val / 64 * 64 + k.val = b.val * 2048 + (q.val / 64 * 64 + k.val); omega) hl
  have eq : q.val % 64 = i.val % 64 := by omega
  rw [zc, eq, sge_small _ _ (by omega) (by omega), sel_ite, e]

/-- The reference's decay over each block of 64 rows. -/
theorem r61 (b : Fin 8) (q : Fin 2048) (n : Fin 16) (i : Fin 16384) (l : Fin 128) (hi : i.val = b.val * 2048 + q.val)
    (hl : l.val = 16 + n.val) : val_main_v61 (F := Ideal) S a3 a4 (ix3 b q n) =
      ∑ k : Fin 64, GA S a1 a2 a3 a4 ⟨i.val / 64 * 64 + k.val, by omega⟩ l := by
  pointwise [val_main_v57, val_main_v58, val_main_v59, val_main_v60, val_main_v61, val_main_cst_9]
  refine Finset.sum_congr rfl fun k _ => ?_
  have e := r28 S a1 a2 a3 a4 b ⟨q.val / 64 * 64 + k.val, by omega⟩ n ⟨i.val / 64 * 64 + k.val, by omega⟩ l
    (by show i.val / 64 * 64 + k.val = b.val * 2048 + (q.val / 64 * 64 + k.val); omega) hl
  exact e

/-- All lanes of the reference's first result. -/
theorem r67 (b : Fin 8) (q : Fin 2048) (l : Fin 128) (i : Fin 16384) (hi : i.val = b.val * 2048 + q.val) :
    val_main_v67 (F := Ideal) S a1 a2 a3 a4 (ix3 b q l) = SPEC S a1 a2 a3 a4 i l := by
  pointwise [val_main_v62, val_main_v63, val_main_v64, val_main_v65, val_main_v66, val_main_v67, val_main_cst_10]
  by_cases h1 : l.val < 8
  · rw [dif_pos h1, SPEC, if_pos h1]
    exact r9 S a1 a2 a3 a4 b q _ i l hi rfl
  rw [dif_neg h1, SPEC, if_neg h1]
  by_cases h2 : l.val < 12
  · rw [dif_pos (by omega), if_pos h2]
    exact r41 S a1 a2 a3 a4 b q _ i l hi (by show l.val = 8 + (l.val - 8); omega)
  rw [dif_neg (by omega), if_neg h2]
  by_cases h3 : l.val < 16
  · rw [dif_pos (by omega), if_pos h3]
    exact r45 S a1 a2 a3 a4 b q _ i l hi (by show l.val = 8 + (4 + (l.val - 8 - 4)); omega)
  rw [dif_neg (by omega), if_neg h3]
  by_cases h4 : l.val < 24
  · rw [dif_pos (by omega), if_pos h4]
    exact r52 S a1 a2 a3 a4 b q _ i l hi (by show l.val = 16 + (l.val - 8 - 4 - 4); omega)
  rw [dif_neg (by omega), if_neg h4]
  by_cases h5 : l.val < 32
  · rw [dif_pos (by omega), if_pos h5]
    exact r56 S a1 a2 a3 a4 b q _ i l hi (by show l.val = 16 + (8 + (l.val - 8 - 4 - 4 - 8)); omega)
  rw [dif_neg (by omega), if_neg h5]
  by_cases h6 : l.val < 48
  · rw [dif_pos (by omega), if_pos h6]
    exact r34 S a1 a2 a3 a4 b q _ i l hi (by show l.val = 32 + (l.val - 8 - 4 - 4 - 8 - 8); omega)
  rw [dif_neg (by omega), if_neg h6]
  by_cases h7 : l.val < 64
  · rw [dif_pos (by omega), dif_pos h7]
    exact r61 S a1 a2 a3 a4 b q _ i ⟨l.val - 32, by omega⟩ hi (by show l.val - 32 = 16 + (l.val - 8 - 4 - 4 - 8 - 8 - 16); omega)
  · rw [dif_neg (by omega), dif_neg h7]

/-- The reference's first result, rows by lanes. -/
theorem ref1 : val_main_v67 (F := Ideal) S a1 a2 a3 a4 = OUT1 S a1 a2 a3 a4 := by
  funext i
  exact (congrArg (val_main_v67 (F := Ideal) S a1 a2 a3 a4) (funext fun d => by match d with | 0 => rfl | 1 => rfl | 2 => rfl)).trans
    (r67 S a1 a2 a3 a4 (i 0) (i 1) (i 2) _ rfl)

/-- The reference's second result, lanes by rows. -/
theorem ref2 : val_main_v68 (F := Ideal) S a1 a2 a3 a4 = OUT2 S a1 a2 a3 a4 := by
  funext i
  pointwise [val_main_v68]
  exact r67 S a1 a2 a3 a4 (i 0) (i 2) (i 1) _ rfl

/-- The gates' preparation and its reference leave the same two results. -/
theorem algebraic : Cert.algebraic_GateIdeal_GateRefIdeal (hGateIdeal := Cert.GateIdeal.Gen.facts)
    (hGateRefIdeal := Cert.GateRefIdeal.Gen.facts) := by
  intro m ρ m' ρ' _ hagree
  refine ⟨fun c => OUT1 (aS m c) (aI m c) (aF m c) (aA m c) (aD m c),
    fun c => OUT2 (aS m c) (aI m c) (aF m c) (aA m c) (aD m c), ?_, ?_⟩
  · refine (θ_run _ _ _).mono (fun r h c => ?_) (Cert.GateIdeal.Value.run_blocks m ρ)
    obtain ⟨h1, h2, h3⟩ := h c
    exact ⟨h1.trans (final3 m c), h2.trans (final4 m c), h3⟩
  · refine (θ_run _ _ _).mono (fun r h c => ?_) (Cert.GateRefIdeal.Value.run m' ρ')
    obtain ⟨h1, h2, h3⟩ := h c
    obtain ⟨g0, g1, g2, g3, g4⟩ := hagree c
    refine ⟨?_, ?_, h3⟩
    · rw [h1, val_main_v67_eq, ref1, g0, g1, g2, g3, g4]
    · rw [h2, val_main_v68_eq, ref2, g0, g1, g2, g3, g4]

end Cert.Gate.Hand
end
-- ==== Proof.lean ====
module

public import proofs.«01_k».proof.Defs
public import proofs.«01_k».proof.Proof.Gen.First.Frame
public import proofs.«01_k».proof.Proof.Gen.FirstIdeal.Value
public import proofs.«01_k».proof.Proof.Gen.FirstRefIdeal.Run
public import proofs.«01_k».proof.Proof.Gen.FirstRefIdeal.Read
public import proofs.«01_k».proof.Proof.Gen.Rest.Frame
public import proofs.«01_k».proof.Proof.Gen.RestIdeal.Value
public import proofs.«01_k».proof.Proof.Gen.RestRefIdeal.Run
public import proofs.«01_k».proof.Proof.Gen.RestRefIdeal.Read
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.On_columns_of_first
public import proofs.«01_k».proof.Proof.FirstRef
public import proofs.«01_k».proof.Proof.RestRef
public import proofs.«01_k».proof.Proof.MixRef
public import proofs.«01_k».proof.Proof.FfnRef
public import proofs.«01_k».proof.Proof.GateRef

/-! The certificate: the frames, preservations and value claims of the five calls taken. -/

@[expose] public section

noncomputable section

namespace Cert.Proof

open Idealize.ShloMosaic Idealize.SL.Sem

/-- The reference of the call `First` terminates without fault and leaves its arguments and the counters as they were. -/
theorem frame_first_ref : Cert.quiescent_FirstRefIdeal (hFirstRefIdeal := Cert.FirstRefIdeal.Gen.facts) := fun m ρ _ =>
  (θ_run Cert.FirstRefIdeal.defs _ _).mono (fun r h => ⟨fun c => (h c).2.2.2, sem_eq_zero_of_no_sems (by decide) r.2⟩)
    (Cert.FirstRefIdeal.Value.run (F := Ideal) m ρ)

/-- The reference of the call `Rest` terminates without fault and leaves its arguments and the counters as they were. -/
theorem frame_rest_ref : Cert.quiescent_RestRefIdeal (hRestRefIdeal := Cert.RestRefIdeal.Gen.facts) := fun m ρ _ =>
  (θ_run Cert.RestRefIdeal.defs _ _).mono (fun r h => ⟨fun c => (h c).2, sem_eq_zero_of_no_sems (by decide) r.2⟩)
    (Cert.RestRefIdeal.Value.run (F := Ideal) m ρ)

/-- The reference of the call `Mix` terminates without fault and leaves its arguments and the counters as they were. -/
theorem frame_mix_ref : Cert.quiescent_MixRefIdeal (hMixRefIdeal := Cert.MixRefIdeal.Gen.facts) := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The reference of the call `Ffn` terminates without fault and leaves its arguments and the counters as they were. -/
theorem frame_ffn_ref : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the call `Gate` terminates without fault and leaves its arguments and the counters as they were. -/
theorem frame_gate_ref : Cert.quiescent_GateRefIdeal (hGateRefIdeal := Cert.GateRefIdeal.Gen.facts) := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- All twenty-five claims. -/
theorem claim : Cert.Claim :=
  ⟨Cert.First.Gen.facts, Cert.FirstIdeal.Gen.facts, Cert.FirstRefIdeal.Gen.facts, Cert.Rest.Gen.facts, Cert.RestIdeal.Gen.facts, Cert.RestRefIdeal.Gen.facts, Cert.Mix.Gen.facts, Cert.MixIdeal.Gen.facts, Cert.MixRefIdeal.Gen.facts, Cert.Ffn.Gen.facts, Cert.FfnIdeal.Gen.facts, Cert.FfnRefIdeal.Gen.facts,
    Cert.Gate.Gen.facts, Cert.GateIdeal.Gen.facts, Cert.GateRefIdeal.Gen.facts,
    Cert.On_columns_of_first.Gen.facts,
    fun m ρ _ => Cert.First.Gen.frame m ρ,
    fun m ρ _ => Cert.FirstIdeal.Gen.frame m ρ,
    frame_first_ref,
    fun m ρ _ => Cert.Rest.Gen.frame m ρ,
    fun m ρ _ => Cert.RestIdeal.Gen.frame m ρ,
    frame_rest_ref,
    fun m ρ _ => Cert.Mix.Gen.frame m ρ,
    fun m ρ _ => Cert.MixIdeal.Gen.frame m ρ,
    frame_mix_ref,
    fun m ρ _ => Cert.Ffn.Gen.frame m ρ,
    fun m ρ _ => Cert.FfnIdeal.Gen.frame m ρ,
    frame_ffn_ref,
    fun m ρ _ => Cert.Gate.Gen.frame m ρ,
    fun m ρ _ => Cert.GateIdeal.Gen.frame m ρ,
    frame_gate_ref,
    trivial,
    Cert.First.Hand.algebraic,
    trivial,
    Cert.Rest.Hand.algebraic,
    trivial,
    Cert.Mix.Hand.algebraic,
    trivial,
    Cert.Ffn.Hand.algebraic,
    trivial,
    Cert.Gate.Hand.algebraic⟩

end Cert.Proof

end
